-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S4x448x2x128 Cert.KernelIdeal.S4x448x1x128
  ∧ IdealRules.bf16_pair.PackStatement Cert.KernelIdeal.S8x128
  ∧ IdealRules.bf16_pair.Statement Cert.KernelIdeal.S1x8x2x128 Cert.KernelIdeal.S1x8x1x128
  ∧ IdealRules.bf16_pair.Statement Cert.KernelIdeal.S1x1x2x128 Cert.KernelIdeal.S1x1x1x128
  ∧ IdealRules.bf16_pair.Statement Cert.KernelIdeal.S2x128 Cert.KernelIdeal.S1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51_0) = v0 c
          ∧ r.2.mem ((c.tc : Thread Cert.ReferenceIdeal.nD Cert.ReferenceIdeal.τ).loc Cert.ReferenceIdeal.main_v51_1) = v1 c
          ∧ r.2.mem ((c.tc : Thread Cert.ReferenceIdeal.nD Cert.ReferenceIdeal.τ).loc Cert.ReferenceIdeal.main_v51_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x14336 : Shape := ⟨3, ![1, 128, 14336]⟩
abbrev S5120x56x2x64 : Shape := ⟨4, ![5120, 56, 2, 64]⟩
abbrev S5120x56x2x32 : Shape := ⟨4, ![5120, 56, 2, 32]⟩
abbrev S5120x56x16 : Shape := ⟨3, ![5120, 56, 16]⟩
abbrev S5120x56 : Shape := ⟨2, ![5120, 56]⟩
abbrev S56x2x64x5120 : Shape := ⟨4, ![56, 2, 64, 5120]⟩
abbrev S56x2x32x5120 : Shape := ⟨4, ![56, 2, 32, 5120]⟩
abbrev S56x16x5120 : Shape := ⟨3, ![56, 16, 5120]⟩
abbrev S56x5120 : Shape := ⟨2, ![56, 5120]⟩
abbrev S128x14336 : Shape := ⟨2, ![128, 14336]⟩
abbrev S128x5120 : Shape := ⟨2, ![128, 5120]⟩
abbrev S10x4x128 : Shape := ⟨3, ![10, 4, 128]⟩
abbrev S56x2x64x512 : Shape := ⟨4, ![56, 2, 64, 512]⟩
abbrev S56x2x32x512 : Shape := ⟨4, ![56, 2, 32, 512]⟩
abbrev S56x16x128 : Shape := ⟨3, ![56, 16, 128]⟩
abbrev S56x512 : Shape := ⟨2, ![56, 512]⟩
abbrev S128x512 : Shape := ⟨2, ![128, 512]⟩
abbrev S1x4x128 : Shape := ⟨3, ![1, 4, 128]⟩
abbrev S56x128x256 : Shape := ⟨3, ![56, 128, 256]⟩
abbrev S4x56x128 : Shape := ⟨3, ![4, 56, 128]⟩
abbrev S4x448x128 : Shape := ⟨3, ![4, 448, 128]⟩
abbrev S128x128 : Shape := ⟨2, ![128, 128]⟩
abbrev S128x128x1 : Shape := ⟨3, ![128, 128, 1]⟩
abbrev S1x128x128 : Shape := ⟨3, ![1, 128, 128]⟩
abbrev S56x128 : Shape := ⟨2, ![56, 128]⟩
abbrev S1x56x128 : Shape := ⟨3, ![1, 56, 128]⟩
abbrev S4x16x128 : Shape := ⟨3, ![4, 16, 128]⟩
abbrev S64x128 : Shape := ⟨2, ![64, 128]⟩
abbrev S16x128 : Shape := ⟨2, ![16, 128]⟩
abbrev S8x2x128 : Shape := ⟨3, ![8, 2, 128]⟩
abbrev S8x1x128 : Shape := ⟨3, ![8, 1, 128]⟩
abbrev S8x128 : Shape := ⟨2, ![8, 128]⟩
abbrev S32x128 : Shape := ⟨2, ![32, 128]⟩
abbrev S1x8x128 : Shape := ⟨3, ![1, 8, 128]⟩
abbrev S1x1x32x128 : Shape := ⟨4, ![1, 1, 32, 128]⟩
abbrev S32x1x128 : Shape := ⟨3, ![32, 1, 128]⟩
abbrev S32x2x128 : Shape := ⟨3, ![32, 2, 128]⟩
abbrev S1x1x128 : Shape := ⟨3, ![1, 1, 128]⟩
abbrev S1x128 : Shape := ⟨2, ![1, 128]⟩
abbrev S2x128 : Shape := ⟨2, ![2, 128]⟩
abbrev S1x2x128 : Shape := ⟨3, ![1, 2, 128]⟩
abbrev S256x128 : Shape := ⟨2, ![256, 128]⟩
abbrev S256x512 : Shape := ⟨2, ![256, 512]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S4x128 : Shape := ⟨2, ![4, 128]⟩
abbrev S40x128 : Shape := ⟨2, ![40, 128]⟩
abbrev S128x40 : Shape := ⟨2, ![128, 40]⟩
abbrev S1x128x5120 : Shape := ⟨3, ![1, 128, 5120]⟩
abbrev S1x128x40 : Shape := ⟨3, ![1, 128, 40]⟩

abbrev nBuf : Space → Nat
  | .hbm => 18
  | .vmem => 25
  | .smem => 0
  | _ => 0

abbrev bufTy : (tb : Table) → Fin (tcTables nBuf tb) → BufTy
  | .hbm, ⟨0, _⟩ => ⟨S1x128x14336, .bf16⟩
  | .hbm, ⟨1, _⟩ => ⟨S5120x56x2x64, .i8⟩
  | .hbm, ⟨2, _⟩ => ⟨S5120x56x2x32, .i8⟩
  | .hbm, ⟨3, _⟩ => ⟨S5120x56x16, .i8⟩
  | .hbm, ⟨4, _⟩ => ⟨S5120x56, .f16⟩
  | .hbm, ⟨5, _⟩ => ⟨S56x2x64x5120, .i8⟩
  | .hbm, ⟨6, _⟩ => ⟨S56x2x32x5120, .i8⟩
  | .hbm, ⟨7, _⟩ => ⟨S56x16x5120, .i8⟩
  | .hbm, ⟨8, _⟩ => ⟨S56x5120, .f16⟩
  | .hbm, ⟨9, _⟩ => ⟨S128x14336, .bf16⟩
  | .hbm, ⟨10, _⟩ => ⟨S128x5120, .bf16⟩
  | .hbm, ⟨11, _⟩ => ⟨S128x5120, .fp8e4m3⟩
  | .hbm, ⟨12, _⟩ => ⟨S10x4x128, .f32⟩
  | .hbm, ⟨13, _⟩ => ⟨S40x128, .f32⟩
  | .hbm, ⟨14, _⟩ => ⟨S128x40, .f32⟩
  | .hbm, ⟨15, _⟩ => ⟨S1x128x5120, .bf16⟩
  | .hbm, ⟨16, _⟩ => ⟨S1x128x5120, .fp8e4m3⟩
  | .hbm, ⟨17, _⟩ => ⟨S1x128x40, .f32⟩
  | .local _ .vmem, ⟨0, _⟩ => ⟨S128x14336, .bf16⟩
  | .local _ .vmem, ⟨1, _⟩ => ⟨S56x2x64x512, .i8⟩
  | .local _ .vmem, ⟨2, _⟩ => ⟨S56x2x64x512, .i8⟩
  | .local _ .vmem, ⟨3, _⟩ => ⟨S56x2x32x512, .i8⟩
  | .local _ .vmem, ⟨4, _⟩ => ⟨S56x2x32x512, .i8⟩
  | .local _ .vmem, ⟨5, _⟩ => ⟨S56x16x128, .i8⟩
  | .local _ .vmem, ⟨6, _⟩ => ⟨S56x16x128, .i8⟩
  | .local _ .vmem, ⟨7, _⟩ => ⟨S56x16x128, .i8⟩
  | .local _ .vmem, ⟨8, _⟩ => ⟨S56x16x128, .i8⟩
  | .local _ .vmem, ⟨9, _⟩ => ⟨S56x16x128, .i8⟩
  | .local _ .vmem, ⟨10, _⟩ => ⟨S56x16x128, .i8⟩
  | .local _ .vmem, ⟨11, _⟩ => ⟨S56x16x128, .i8⟩
  | .local _ .vmem, ⟨12, _⟩ => ⟨S56x16x128, .i8⟩
  | .local _ .vmem, ⟨13, _⟩ => ⟨S56x512, .f16⟩
  | .local _ .vmem, ⟨14, _⟩ => ⟨S56x512, .f16⟩
  | .local _ .vmem, ⟨15, _⟩ => ⟨S128x512, .bf16⟩
  | .local _ .vmem, ⟨16, _⟩ => ⟨S128x512, .bf16⟩
  | .local _ .vmem, ⟨17, _⟩ => ⟨S128x512, .fp8e4m3⟩
  | .local _ .vmem, ⟨18, _⟩ => ⟨S128x512, .fp8e4m3⟩
  | .local _ .vmem, ⟨19, _⟩ => ⟨S1x4x128, .f32⟩
  | .local _ .vmem, ⟨20, _⟩ => ⟨S1x4x128, .f32⟩
  | .local _ .vmem, ⟨21, _⟩ => ⟨S56x128x256, .bf16⟩
  | .local _ .vmem, ⟨22, _⟩ => ⟨S4x56x128, .f32⟩
  | .local _ .vmem, ⟨23, _⟩ => ⟨S4x448x128, .i32⟩
  | .local _ .vmem, ⟨24, _⟩ => ⟨S128x512, .f32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [BitOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_138 : BitVec 32 := 0#32
  let c56_i32_139 : BitVec 32 := 56#32
  let v387 : BitVec 32 := Scalar.addi c0_i32_138 c56_i32_139
  let c1_i32_140 : BitVec 32 := 1#32
  ⟨c0_i32_138, v387, c1_i32_140⟩
def k0_mult1 (k0_t1 : Fin k0_t1_loop.trips) : BitVec 32 :=
  let c0_i32_138 : BitVec 32 := 0#32
  let c1_i32_140 : BitVec 32 := 1#32
  let arg16 : BitVec 32 := Scf.iv c0_i32_138 c1_i32_140 k0_t1
  let c256_i32 : BitVec 32 := 256#32
  let v388 : BitVec 32 := Scalar.muli arg16 c256_i32
  let c0_i32_142 : BitVec 32 := 0#32
  let v389 : BitVec 32 := Scalar.addi v388 c0_i32_142
  v389
def k0_off1 (k0_t1 : Fin k0_t1_loop.trips) (c0_i32_142 : BitVec 32) : Fin 2 → Nat :=
  let c0_143 : Index := 0#32
  let c0_i32_138 : BitVec 32 := 0#32
  let c1_i32_140 : BitVec 32 := 1#32
  let arg16 : BitVec 32 := Scf.iv c0_i32_138 c1_i32_140 k0_t1
  let c256_i32 : BitVec 32 := 256#32
  let v388 : BitVec 32 := Scalar.muli arg16 c256_i32
  let v389 : BitVec 32 := Scalar.addi v388 c0_i32_142
  let v390 : BitVec 32 := v389
  let v391 : Index := Scalar.indexCast v390
  ![0, v391.toNat]
def k0_off2 (k0_t1 : Fin k0_t1_loop.trips) : Fin 3 → Nat :=
  let c0_i32_138 : BitVec 32 := 0#32
  let c1_i32_140 : BitVec 32 := 1#32
  let arg16 : BitVec 32 := Scf.iv c0_i32_138 c1_i32_140 k0_t1
  let v404 : Index := Scalar.indexCast arg16
  let c0_145 : Index := 0#32
  let c0_146 : Index := 0#32
  ![v404.toNat, 0, 0]
def k0_mult2 (k0_t1 : Fin k0_t1_loop.trips) : BitVec 32 :=
  let c0_i32_138 : BitVec 32 := 0#32
  let c1_i32_140 : BitVec 32 := 1#32
  let arg16 : BitVec 32 := Scf.iv c0_i32_138 c1_i32_140 k0_t1
  let c256_i32_147 : BitVec 32 := 256#32
  let v408 : BitVec 32 := Scalar.muli arg16 c256_i32_147
  let c128_i32_148 : BitVec 32 := 128#32
  let v409 : BitVec 32 := Scalar.addi v408 c128_i32_148
  v409
def k0_off3 (k0_t1 : Fin k0_t1_loop.trips) : Fin 3 → Nat :=
  let c0_i32_138 : BitVec 32 := 0#32
  let c1_i32_140 : BitVec 32 := 1#32
  let arg16 : BitVec 32 := Scf.iv c0_i32_138 c1_i32_140 k0_t1
  let v424 : Index := Scalar.indexCast arg16
  let c0_152 : Index := 0#32
  let c128_153 : Index := 128#32
  ![v424.toNat, 0, 128]
@[reducible] def k0_t2_loop : Scf.Loop 32 :=
  let c0_i32_5 : BitVec 32 := 0#32
  let c14_i32 : BitVec 32 := 14#32
  let v9 : BitVec 32 := Scalar.addi c0_i32_5 c14_i32
  let c1_i32 : BitVec 32 := 1#32
  ⟨c0_i32_5, v9, c1_i32⟩
def k0_off4 (k0_t2 : Fin k0_t2_loop.trips) : Fin 3 → Nat :=
  let c4_i32 : BitVec 32 := 4#32
  let c0_i32_5 : BitVec 32 := 0#32
  let c1_i32 : BitVec 32 := 1#32
  let arg16 : BitVec 32 := Scf.iv c0_i32_5 c1_i32 k0_t2
  let v372 : BitVec 32 := Scalar.muli c4_i32 arg16
  let v373 : Index := Scalar.indexCast v372
  let c0_135 : Index := 0#32
  let c0_136 : Index := 0#32
  ![v373.toNat, 0, 0]
def k0_off5 (k0_t2 : Fin k0_t2_loop.trips) (c0_i32_138 : BitVec 32) : Fin 3 → Nat :=
  let c0_139 : Index := 0#32
  let c4_i32_137 : BitVec 32 := 4#32
  let c0_i32_5 : BitVec 32 := 0#32
  let c1_i32 : BitVec 32 := 1#32
  let arg16 : BitVec 32 := Scf.iv c0_i32_5 c1_i32 k0_t2
  let v389 : BitVec 32 := Scalar.muli c4_i32_137 arg16
  let v390 : BitVec 32 := Scalar.addi v389 c0_i32_138
  let v391 : Index := Scalar.indexCast v390
  let c0_140 : Index := 0#32
  ![0, v391.toNat, 0]
def k0_mult3 (k0_t2 : Fin k0_t2_loop.trips) : BitVec 32 :=
  let c32_i32 : BitVec 32 := 32#32
  let c0_i32_5 : BitVec 32 := 0#32
  let c1_i32 : BitVec 32 := 1#32
  let arg16 : BitVec 32 := Scf.iv c0_i32_5 c1_i32 k0_t2
  let v399 : BitVec 32 := Scalar.muli c32_i32 arg16
  let c0_i32_141 : BitVec 32 := 0#32
  let v400 : BitVec 32 := Scalar.addi v399 c0_i32_141
  v400
def k0_off6 (k0_t2 : Fin k0_t2_loop.trips) (c0_i32_141 : BitVec 32) : Fin 3 → Nat :=
  let c0_142 : Index := 0#32
  let c32_i32 : BitVec 32 := 32#32
  let c0_i32_5 : BitVec 32 := 0#32
  let c1_i32 : BitVec 32 := 1#32
  let arg16 : BitVec 32 := Scf.iv c0_i32_5 c1_i32 k0_t2
  let v399 : BitVec 32 := Scalar.muli c32_i32 arg16
  let v400 : BitVec 32 := Scalar.addi v399 c0_i32_141
  let v401 : BitVec 32 := v400
  let v402 : Index := Scalar.indexCast v401
  let c0_143 : Index := 0#32
  ![0, v402.toNat, 0]
def k0_mult4 (k0_t2 : Fin k0_t2_loop.trips) : BitVec 32 :=
  let c32_i32_148 : BitVec 32 := 32#32
  let c0_i32_5 : BitVec 32 := 0#32
  let c1_i32 : BitVec 32 := 1#32
  let arg16 : BitVec 32 := Scf.iv c0_i32_5 c1_i32 k0_t2
  let v416 : BitVec 32 := Scalar.muli c32_i32_148 arg16
  let c8_i32 : BitVec 32 := 8#32
  let v417 : BitVec 32 := Scalar.addi v416 c8_i32
  v417
def k0_mult5 (k0_t2 : Fin k0_t2_loop.trips) : BitVec 32 :=
  let c32_i32_154 : BitVec 32 := 32#32
  let c0_i32_5 : BitVec 32 := 0#32
  let c1_i32 : BitVec 32 := 1#32
  let arg16 : BitVec 32 := Scf.iv c0_i32_5 c1_i32 k0_t2
  let v433 : BitVec 32 := Scalar.muli c32_i32_154 arg16
  let c16_i32 : BitVec 32 := 16#32
  let v434 : BitVec 32 := Scalar.addi v433 c16_i32
  v434
def k0_mult6 (k0_t2 : Fin k0_t2_loop.trips) : BitVec 32 :=
  let c32_i32_160 : BitVec 32 := 32#32
  let c0_i32_5 : BitVec 32 := 0#32
  let c1_i32 : BitVec 32 := 1#32
  let arg16 : BitVec 32 := Scf.iv c0_i32_5 c1_i32 k0_t2
  let v450 : BitVec 32 := Scalar.muli c32_i32_160 arg16
  let c24_i32 : BitVec 32 := 24#32
  let v451 : BitVec 32 := Scalar.addi v450 c24_i32
  v451
@[reducible] def k0_t3_loop : Scf.Loop 32 :=
  let c0_i32_10 : BitVec 32 := 0#32
  let c14_i32_11 : BitVec 32 := 14#32
  let v16 : BitVec 32 := Scalar.addi c0_i32_10 c14_i32_11
  let c1_i32_12 : BitVec 32 := 1#32
  ⟨c0_i32_10, v16, c1_i32_12⟩
def k0_off7 (k0_t3 : Fin k0_t3_loop.trips) : Fin 3 → Nat :=
  let c4_i32 : BitVec 32 := 4#32
  let c0_i32_10 : BitVec 32 := 0#32
  let c1_i32_12 : BitVec 32 := 1#32
  let arg16 : BitVec 32 := Scf.iv c0_i32_10 c1_i32_12 k0_t3
  let v372 : BitVec 32 := Scalar.muli c4_i32 arg16
  let v373 : Index := Scalar.indexCast v372
  let c0_135 : Index := 0#32
  let c0_136 : Index := 0#32
  ![v373.toNat, 0, 0]
def k0_off8 (k0_t3 : Fin k0_t3_loop.trips) (c0_i32_138 : BitVec 32) : Fin 3 → Nat :=
  let c1_139 : Index := 1#32
  let c4_i32_137 : BitVec 32 := 4#32
  let c0_i32_10 : BitVec 32 := 0#32
  let c1_i32_12 : BitVec 32 := 1#32
  let arg16 : BitVec 32 := Scf.iv c0_i32_10 c1_i32_12 k0_t3
  let v389 : BitVec 32 := Scalar.muli c4_i32_137 arg16
  let v390 : BitVec 32 := Scalar.addi v389 c0_i32_138
  let v391 : Index := Scalar.indexCast v390
  let c0_140 : Index := 0#32
  ![1, v391.toNat, 0]
def k0_mult7 (k0_t3 : Fin k0_t3_loop.trips) : BitVec 32 :=
  let c32_i32 : BitVec 32 := 32#32
  let c0_i32_10 : BitVec 32 := 0#32
  let c1_i32_12 : BitVec 32 := 1#32
  let arg16 : BitVec 32 := Scf.iv c0_i32_10 c1_i32_12 k0_t3
  let v399 : BitVec 32 := Scalar.muli c32_i32 arg16
  let c0_i32_141 : BitVec 32 := 0#32
  let v400 : BitVec 32 := Scalar.addi v399 c0_i32_141
  v400
def k0_off9 (k0_t3 : Fin k0_t3_loop.trips) (c0_i32_141 : BitVec 32) : Fin 3 → Nat :=
  let c1_142 : Index := 1#32
  let c32_i32 : BitVec 32 := 32#32
  let c0_i32_10 : BitVec 32 := 0#32
  let c1_i32_12 : BitVec 32 := 1#32
  let arg16 : BitVec 32 := Scf.iv c0_i32_10 c1_i32_12 k0_t3
  let v399 : BitVec 32 := Scalar.muli c32_i32 arg16
  let v400 : BitVec 32 := Scalar.addi v399 c0_i32_141
  let v401 : BitVec 32 := v400
  let v402 : Index := Scalar.indexCast v401
  let c0_143 : Index := 0#32
  ![1, v402.toNat, 0]
def k0_mult8 (k0_t3 : Fin k0_t3_loop.trips) : BitVec 32 :=
  let c32_i32_148 : BitVec 32 := 32#32
  let c0_i32_10 : BitVec 32 := 0#32
  let c1_i32_12 : BitVec 32 := 1#32
  let arg16 : BitVec 32 := Scf.iv c0_i32_10 c1_i32_12 k0_t3
  let v416 : BitVec 32 := Scalar.muli c32_i32_148 arg16
  let c8_i32 : BitVec 32 := 8#32
  let v417 : BitVec 32 := Scalar.addi v416 c8_i32
  v417
def k0_mult9 (k0_t3 : Fin k0_t3_loop.trips) : BitVec 32 :=
  let c32_i32_154 : BitVec 32 := 32#32
  let c0_i32_10 : BitVec 32 := 0#32
  let c1_i32_12 : BitVec 32 := 1#32
  let arg16 : BitVec 32 := Scf.iv c0_i32_10 c1_i32_12 k0_t3
  let v433 : BitVec 32 := Scalar.muli c32_i32_154 arg16
  let c16_i32 : BitVec 32 := 16#32
  let v434 : BitVec 32 := Scalar.addi v433 c16_i32
  v434
def k0_mult10 (k0_t3 : Fin k0_t3_loop.trips) : BitVec 32 :=
  let c32_i32_160 : BitVec 32 := 32#32
  let c0_i32_10 : BitVec 32 := 0#32
  let c1_i32_12 : BitVec 32 := 1#32
  let arg16 : BitVec 32 := Scf.iv c0_i32_10 c1_i32_12 k0_t3
  let v450 : BitVec 32 := Scalar.muli c32_i32_160 arg16
  let c24_i32 : BitVec 32 := 24#32
  let v451 : BitVec 32 := Scalar.addi v450 c24_i32
  v451
@[reducible] def k0_t4_loop : Scf.Loop 32 :=
  let c0_i32_17 : BitVec 32 := 0#32
  let c14_i32_18 : BitVec 32 := 14#32
  let v23 : BitVec 32 := Scalar.addi c0_i32_17 c14_i32_18
  let c1_i32_19 : BitVec 32 := 1#32
  ⟨c0_i32_17, v23, c1_i32_19⟩
def k0_off10 (k0_t4 : Fin k0_t4_loop.trips) : Fin 3 → Nat :=
  let c4_i32 : BitVec 32 := 4#32
  let c0_i32_17 : BitVec 32 := 0#32
  let c1_i32_19 : BitVec 32 := 1#32
  let arg16 : BitVec 32 := Scf.iv c0_i32_17 c1_i32_19 k0_t4
  let v372 : BitVec 32 := Scalar.muli c4_i32 arg16
  let v373 : Index := Scalar.indexCast v372
  let c0_135 : Index := 0#32
  let c0_136 : Index := 0#32
  ![v373.toNat, 0, 0]
def k0_off11 (k0_t4 : Fin k0_t4_loop.trips) (c0_i32_138 : BitVec 32) : Fin 3 → Nat :=
  let c2_139 : Index := 2#32
  let c4_i32_137 : BitVec 32 := 4#32
  let c0_i32_17 : BitVec 32 := 0#32
  let c1_i32_19 : BitVec 32 := 1#32
  let arg16 : BitVec 32 := Scf.iv c0_i32_17 c1_i32_19 k0_t4
  let v389 : BitVec 32 := Scalar.muli c4_i32_137 arg16
  let v390 : BitVec 32 := Scalar.addi v389 c0_i32_138
  let v391 : Index := Scalar.indexCast v390
  let c0_140 : Index := 0#32
  ![2, v391.toNat, 0]
def k0_mult11 (k0_t4 : Fin k0_t4_loop.trips) : BitVec 32 :=
  let c32_i32 : BitVec 32 := 32#32
  let c0_i32_17 : BitVec 32 := 0#32
  let c1_i32_19 : BitVec 32 := 1#32
  let arg16 : BitVec 32 := Scf.iv c0_i32_17 c1_i32_19 k0_t4
  let v399 : BitVec 32 := Scalar.muli c32_i32 arg16
  let c0_i32_141 : BitVec 32 := 0#32
  let v400 : BitVec 32 := Scalar.addi v399 c0_i32_141
  v400
def k0_off12 (k0_t4 : Fin k0_t4_loop.trips) (c0_i32_141 : BitVec 32) : Fin 3 → Nat :=
  let c2_142 : Index := 2#32
  let c32_i32 : BitVec 32 := 32#32
  let c0_i32_17 : BitVec 32 := 0#32
  let c1_i32_19 : BitVec 32 := 1#32
  let arg16 : BitVec 32 := Scf.iv c0_i32_17 c1_i32_19 k0_t4
  let v399 : BitVec 32 := Scalar.muli c32_i32 arg16
  let v400 : BitVec 32 := Scalar.addi v399 c0_i32_141
  let v401 : BitVec 32 := v400
  let v402 : Index := Scalar.indexCast v401
  let c0_143 : Index := 0#32
  ![2, v402.toNat, 0]
def k0_mult12 (k0_t4 : Fin k0_t4_loop.trips) : BitVec 32 :=
  let c32_i32_148 : BitVec 32 := 32#32
  let c0_i32_17 : BitVec 32 := 0#32
  let c1_i32_19 : BitVec 32 := 1#32
  let arg16 : BitVec 32 := Scf.iv c0_i32_17 c1_i32_19 k0_t4
  let v416 : BitVec 32 := Scalar.muli c32_i32_148 arg16
  let c8_i32 : BitVec 32 := 8#32
  let v417 : BitVec 32 := Scalar.addi v416 c8_i32
  v417
def k0_mult13 (k0_t4 : Fin k0_t4_loop.trips) : BitVec 32 :=
  let c32_i32_154 : BitVec 32 := 32#32
  let c0_i32_17 : BitVec 32 := 0#32
  let c1_i32_19 : BitVec 32 := 1#32
  let arg16 : BitVec 32 := Scf.iv c0_i32_17 c1_i32_19 k0_t4
  let v433 : BitVec 32 := Scalar.muli c32_i32_154 arg16
  let c16_i32 : BitVec 32 := 16#32
  let v434 : BitVec 32 := Scalar.addi v433 c16_i32
  v434
def k0_mult14 (k0_t4 : Fin k0_t4_loop.trips) : BitVec 32 :=
  let c32_i32_160 : BitVec 32 := 32#32
  let c0_i32_17 : BitVec 32 := 0#32
  let c1_i32_19 : BitVec 32 := 1#32
  let arg16 : BitVec 32 := Scf.iv c0_i32_17 c1_i32_19 k0_t4
  let v450 : BitVec 32 := Scalar.muli c32_i32_160 arg16
  let c24_i32 : BitVec 32 := 24#32
  let v451 : BitVec 32 := Scalar.addi v450 c24_i32
  v451
@[reducible] def k0_t5_loop : Scf.Loop 32 :=
  let c0_i32_24 : BitVec 32 := 0#32
  let c14_i32_25 : BitVec 32 := 14#32
  let v30 : BitVec 32 := Scalar.addi c0_i32_24 c14_i32_25
  let c1_i32_26 : BitVec 32 := 1#32
  ⟨c0_i32_24, v30, c1_i32_26⟩
def k0_off13 (k0_t5 : Fin k0_t5_loop.trips) : Fin 3 → Nat :=
  let c4_i32 : BitVec 32 := 4#32
  let c0_i32_24 : BitVec 32 := 0#32
  let c1_i32_26 : BitVec 32 := 1#32
  let arg16 : BitVec 32 := Scf.iv c0_i32_24 c1_i32_26 k0_t5
  let v372 : BitVec 32 := Scalar.muli c4_i32 arg16
  let v373 : Index := Scalar.indexCast v372
  let c0_135 : Index := 0#32
  let c0_136 : Index := 0#32
  ![v373.toNat, 0, 0]
def k0_off14 (k0_t5 : Fin k0_t5_loop.trips) (c0_i32_138 : BitVec 32) : Fin 3 → Nat :=
  let c3_139 : Index := 3#32
  let c4_i32_137 : BitVec 32 := 4#32
  let c0_i32_24 : BitVec 32 := 0#32
  let c1_i32_26 : BitVec 32 := 1#32
  let arg16 : BitVec 32 := Scf.iv c0_i32_24 c1_i32_26 k0_t5
  let v389 : BitVec 32 := Scalar.muli c4_i32_137 arg16
  let v390 : BitVec 32 := Scalar.addi v389 c0_i32_138
  let v391 : Index := Scalar.indexCast v390
  let c0_140 : Index := 0#32
  ![3, v391.toNat, 0]
def k0_mult15 (k0_t5 : Fin k0_t5_loop.trips) : BitVec 32 :=
  let c32_i32 : BitVec 32 := 32#32
  let c0_i32_24 : BitVec 32 := 0#32
  let c1_i32_26 : BitVec 32 := 1#32
  let arg16 : BitVec 32 := Scf.iv c0_i32_24 c1_i32_26 k0_t5
  let v399 : BitVec 32 := Scalar.muli c32_i32 arg16
  let c0_i32_141 : BitVec 32 := 0#32
  let v400 : BitVec 32 := Scalar.addi v399 c0_i32_141
  v400
def k0_off15 (k0_t5 : Fin k0_t5_loop.trips) (c0_i32_141 : BitVec 32) : Fin 3 → Nat :=
  let c3_142 : Index := 3#32
  let c32_i32 : BitVec 32 := 32#32
  let c0_i32_24 : BitVec 32 := 0#32
  let c1_i32_26 : BitVec 32 := 1#32
  let arg16 : BitVec 32 := Scf.iv c0_i32_24 c1_i32_26 k0_t5
  let v399 : BitVec 32 := Scalar.muli c32_i32 arg16
  let v400 : BitVec 32 := Scalar.addi v399 c0_i32_141
  let v401 : BitVec 32 := v400
  let v402 : Index := Scalar.indexCast v401
  let c0_143 : Index := 0#32
  ![3, v402.toNat, 0]
def k0_mult16 (k0_t5 : Fin k0_t5_loop.trips) : BitVec 32 :=
  let c32_i32_148 : BitVec 32 := 32#32
  let c0_i32_24 : BitVec 32 := 0#32
  let c1_i32_26 : BitVec 32 := 1#32
  let arg16 : BitVec 32 := Scf.iv c0_i32_24 c1_i32_26 k0_t5
  let v416 : BitVec 32 := Scalar.muli c32_i32_148 arg16
  let c8_i32 : BitVec 32 := 8#32
  let v417 : BitVec 32 := Scalar.addi v416 c8_i32
  v417
def k0_mult17 (k0_t5 : Fin k0_t5_loop.trips) : BitVec 32 :=
  let c32_i32_154 : BitVec 32 := 32#32
  let c0_i32_24 : BitVec 32 := 0#32
  let c1_i32_26 : BitVec 32 := 1#32
  let arg16 : BitVec 32 := Scf.iv c0_i32_24 c1_i32_26 k0_t5
  let v433 : BitVec 32 := Scalar.muli c32_i32_154 arg16
  let c16_i32 : BitVec 32 := 16#32
  let v434 : BitVec 32 := Scalar.addi v433 c16_i32
  v434
def k0_mult18 (k0_t5 : Fin k0_t5_loop.trips) : BitVec 32 :=
  let c32_i32_160 : BitVec 32 := 32#32
  let c0_i32_24 : BitVec 32 := 0#32
  let c1_i32_26 : BitVec 32 := 1#32
  let arg16 : BitVec 32 := Scf.iv c0_i32_24 c1_i32_26 k0_t5
  let v450 : BitVec 32 := Scalar.muli c32_i32_160 arg16
  let c24_i32 : BitVec 32 := 24#32
  let v451 : BitVec 32 := Scalar.addi v450 c24_i32
  v451
@[reducible] def k0_t6_loop : Scf.Loop 32 :=
  let c0_i32_30 : BitVec 32 := 0#32
  let c56_i32 : BitVec 32 := 56#32
  let v35 : BitVec 32 := Scalar.addi c0_i32_30 c56_i32
  let c1_i32_31 : BitVec 32 := 1#32
  ⟨c0_i32_30, v35, c1_i32_31⟩
def k0_off16 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v372 : Index := Scalar.indexCast arg16
  let c0_135 : Index := 0#32
  let c0_136 : Index := 0#32
  let c0_137 : Index := 0#32
  ![v372.toNat, 0, 0, 0]
def k0_off17 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v375 : Index := Scalar.indexCast arg16
  let c0_138 : Index := 0#32
  let c32 : Index := 32#32
  let c0_139 : Index := 0#32
  ![v375.toNat, 0, 32, 0]
def k0_off18 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v378 : Index := Scalar.indexCast arg16
  let c0_140 : Index := 0#32
  let c0_141 : Index := 0#32
  let c0_142 : Index := 0#32
  ![v378.toNat, 0, 0, 0]
def k0_off19 (k0_t6 : Fin k0_t6_loop.trips) (c0_i32_156 : BitVec 32) (c0_i32_157 : BitVec 32) (c0_i32_158 : BitVec 32) : Fin 3 → Nat :=
  let c0_159 : Index := 0#32
  let c8_i32 : BitVec 32 := 8#32
  let c0_i32_30 : BitVec 32 := 0#32
  let c1_i32_31 : BitVec 32 := 1#32
  let arg16 : BitVec 32 := Scf.iv c0_i32_30 c1_i32_31 k0_t6
  let v441 : BitVec 32 := Scalar.muli c8_i32 arg16
  let v442 : BitVec 32 := Scalar.addi v441 c0_i32_156
  let v443 : BitVec 32 := Scalar.addi v442 c0_i32_157
  let v444 : BitVec 32 := Scalar.addi v443 c0_i32_158
  let v445 : Index := Scalar.indexCast v444
  let c0_160 : Index := 0#32
  ![0, v445.toNat, 0]
def k0_off20 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v523 : Index := Scalar.indexCast arg16
  let c1_186 : Index := 1#32
  let c0_187 : Index := 0#32
  let c0_188 : Index := 0#32
  ![v523.toNat, 1, 0, 0]
def k0_off21 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v526 : Index := Scalar.indexCast arg16
  let c1_189 : Index := 1#32
  let c32_190 : Index := 32#32
  let c0_191 : Index := 0#32
  ![v526.toNat, 1, 32, 0]
def k0_off22 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v529 : Index := Scalar.indexCast arg16
  let c1_192 : Index := 1#32
  let c0_193 : Index := 0#32
  let c0_194 : Index := 0#32
  ![v529.toNat, 1, 0, 0]
def k0_off23 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v675 : Index := Scalar.indexCast arg16
  let c0_247 : Index := 0#32
  let c0_248 : Index := 0#32
  let c128_249 : Index := 128#32
  ![v675.toNat, 0, 0, 128]
def k0_off24 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v678 : Index := Scalar.indexCast arg16
  let c0_250 : Index := 0#32
  let c32_251 : Index := 32#32
  let c128_252 : Index := 128#32
  ![v678.toNat, 0, 32, 128]
def k0_off25 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v681 : Index := Scalar.indexCast arg16
  let c0_253 : Index := 0#32
  let c0_254 : Index := 0#32
  let c128_255 : Index := 128#32
  ![v681.toNat, 0, 0, 128]
def k0_off26 (k0_t6 : Fin k0_t6_loop.trips) (c0_i32_277 : BitVec 32) (c0_i32_278 : BitVec 32) (c0_i32_279 : BitVec 32) : Fin 3 → Nat :=
  let c1_280 : Index := 1#32
  let c8_i32_276 : BitVec 32 := 8#32
  let c0_i32_30 : BitVec 32 := 0#32
  let c1_i32_31 : BitVec 32 := 1#32
  let arg16 : BitVec 32 := Scf.iv c0_i32_30 c1_i32_31 k0_t6
  let v744 : BitVec 32 := Scalar.muli c8_i32_276 arg16
  let v745 : BitVec 32 := Scalar.addi v744 c0_i32_277
  let v746 : BitVec 32 := Scalar.addi v745 c0_i32_278
  let v747 : BitVec 32 := Scalar.addi v746 c0_i32_279
  let v748 : Index := Scalar.indexCast v747
  let c0_281 : Index := 0#32
  ![1, v748.toNat, 0]
def k0_off27 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v826 : Index := Scalar.indexCast arg16
  let c1_308 : Index := 1#32
  let c0_309 : Index := 0#32
  let c128_310 : Index := 128#32
  ![v826.toNat, 1, 0, 128]
def k0_off28 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v829 : Index := Scalar.indexCast arg16
  let c1_311 : Index := 1#32
  let c32_312 : Index := 32#32
  let c128_313 : Index := 128#32
  ![v829.toNat, 1, 32, 128]
def k0_off29 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v832 : Index := Scalar.indexCast arg16
  let c1_314 : Index := 1#32
  let c0_315 : Index := 0#32
  let c128_316 : Index := 128#32
  ![v832.toNat, 1, 0, 128]
def k0_off30 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v978 : Index := Scalar.indexCast arg16
  let c0_369 : Index := 0#32
  let c0_370 : Index := 0#32
  let c256_371 : Index := 256#32
  ![v978.toNat, 0, 0, 256]
def k0_off31 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v981 : Index := Scalar.indexCast arg16
  let c0_372 : Index := 0#32
  let c32_373 : Index := 32#32
  let c256_374 : Index := 256#32
  ![v981.toNat, 0, 32, 256]
def k0_off32 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v984 : Index := Scalar.indexCast arg16
  let c0_375 : Index := 0#32
  let c0_376 : Index := 0#32
  let c256_377 : Index := 256#32
  ![v984.toNat, 0, 0, 256]
def k0_off33 (k0_t6 : Fin k0_t6_loop.trips) (c0_i32_399 : BitVec 32) (c0_i32_400 : BitVec 32) (c0_i32_401 : BitVec 32) : Fin 3 → Nat :=
  let c2_402 : Index := 2#32
  let c8_i32_398 : BitVec 32 := 8#32
  let c0_i32_30 : BitVec 32 := 0#32
  let c1_i32_31 : BitVec 32 := 1#32
  let arg16 : BitVec 32 := Scf.iv c0_i32_30 c1_i32_31 k0_t6
  let v1047 : BitVec 32 := Scalar.muli c8_i32_398 arg16
  let v1048 : BitVec 32 := Scalar.addi v1047 c0_i32_399
  let v1049 : BitVec 32 := Scalar.addi v1048 c0_i32_400
  let v1050 : BitVec 32 := Scalar.addi v1049 c0_i32_401
  let v1051 : Index := Scalar.indexCast v1050
  let c0_403 : Index := 0#32
  ![2, v1051.toNat, 0]
def k0_off34 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1129 : Index := Scalar.indexCast arg16
  let c1_430 : Index := 1#32
  let c0_431 : Index := 0#32
  let c256_432 : Index := 256#32
  ![v1129.toNat, 1, 0, 256]
def k0_off35 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1132 : Index := Scalar.indexCast arg16
  let c1_433 : Index := 1#32
  let c32_434 : Index := 32#32
  let c256_435 : Index := 256#32
  ![v1132.toNat, 1, 32, 256]
def k0_off36 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1135 : Index := Scalar.indexCast arg16
  let c1_436 : Index := 1#32
  let c0_437 : Index := 0#32
  let c256_438 : Index := 256#32
  ![v1135.toNat, 1, 0, 256]
def k0_off37 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1281 : Index := Scalar.indexCast arg16
  let c0_491 : Index := 0#32
  let c0_492 : Index := 0#32
  let c384_493 : Index := 384#32
  ![v1281.toNat, 0, 0, 384]
def k0_off38 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1284 : Index := Scalar.indexCast arg16
  let c0_494 : Index := 0#32
  let c32_495 : Index := 32#32
  let c384_496 : Index := 384#32
  ![v1284.toNat, 0, 32, 384]
def k0_off39 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1287 : Index := Scalar.indexCast arg16
  let c0_497 : Index := 0#32
  let c0_498 : Index := 0#32
  let c384_499 : Index := 384#32
  ![v1287.toNat, 0, 0, 384]
def k0_off40 (k0_t6 : Fin k0_t6_loop.trips) (c0_i32_521 : BitVec 32) (c0_i32_522 : BitVec 32) (c0_i32_523 : BitVec 32) : Fin 3 → Nat :=
  let c3_524 : Index := 3#32
  let c8_i32_520 : BitVec 32 := 8#32
  let c0_i32_30 : BitVec 32 := 0#32
  let c1_i32_31 : BitVec 32 := 1#32
  let arg16 : BitVec 32 := Scf.iv c0_i32_30 c1_i32_31 k0_t6
  let v1350 : BitVec 32 := Scalar.muli c8_i32_520 arg16
  let v1351 : BitVec 32 := Scalar.addi v1350 c0_i32_521
  let v1352 : BitVec 32 := Scalar.addi v1351 c0_i32_522
  let v1353 : BitVec 32 := Scalar.addi v1352 c0_i32_523
  let v1354 : Index := Scalar.indexCast v1353
  let c0_525 : Index := 0#32
  ![3, v1354.toNat, 0]
def k0_off41 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1432 : Index := Scalar.indexCast arg16
  let c1_552 : Index := 1#32
  let c0_553 : Index := 0#32
  let c384_554 : Index := 384#32
  ![v1432.toNat, 1, 0, 384]
def k0_off42 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1435 : Index := Scalar.indexCast arg16
  let c1_555 : Index := 1#32
  let c32_556 : Index := 32#32
  let c384_557 : Index := 384#32
  ![v1435.toNat, 1, 32, 384]
def k0_off43 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1438 : Index := Scalar.indexCast arg16
  let c1_558 : Index := 1#32
  let c0_559 : Index := 0#32
  let c384_560 : Index := 384#32
  ![v1438.toNat, 1, 0, 384]
def k0_off44 (k0_t6 : Fin k0_t6_loop.trips) : Fin 3 → Nat :=
  let c0_i32_30 : BitVec 32 := 0#32
  let c1_i32_31 : BitVec 32 := 1#32
  let arg16 : BitVec 32 := Scf.iv c0_i32_30 c1_i32_31 k0_t6
  let v1586 : Index := Scalar.indexCast arg16
  let c0_615 : Index := 0#32
  let c0_616 : Index := 0#32
  ![v1586.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![c0_i32.toNat, c0_i32_0.toNat, v1.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![c0_i32.toNat, c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S56x2x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x2x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x16x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x16x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S56x16x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S56x512 .f16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
abbrev S1x128x14336 : Shape := ⟨3, ![1, 128, 14336]⟩
abbrev S5120x56x2x64 : Shape := ⟨4, ![5120, 56, 2, 64]⟩
abbrev S5120x56x2x32 : Shape := ⟨4, ![5120, 56, 2, 32]⟩
abbrev S5120x56x16 : Shape := ⟨3, ![5120, 56, 16]⟩
abbrev S5120x56 : Shape := ⟨2, ![5120, 56]⟩
abbrev S56x2x64x5120 : Shape := ⟨4, ![56, 2, 64, 5120]⟩
abbrev S56x2x32x5120 : Shape := ⟨4, ![56, 2, 32, 5120]⟩
abbrev S56x16x5120 : Shape := ⟨3, ![56, 16, 5120]⟩
abbrev S56x5120 : Shape := ⟨2, ![56, 5120]⟩
abbrev S128x14336 : Shape := ⟨2, ![128, 14336]⟩
abbrev S128x5120 : Shape := ⟨2, ![128, 5120]⟩
abbrev S10x4x128 : Shape := ⟨3, ![10, 4, 128]⟩
abbrev S56x2x64x512 : Shape := ⟨4, ![56, 2, 64, 512]⟩
abbrev S56x2x32x512 : Shape := ⟨4, ![56, 2, 32, 512]⟩
abbrev S56x16x128 : Shape := ⟨3, ![56, 16, 128]⟩
abbrev S56x512 : Shape := ⟨2, ![56, 512]⟩
abbrev S128x512 : Shape := ⟨2, ![128, 512]⟩
abbrev S1x4x128 : Shape := ⟨3, ![1, 4, 128]⟩
abbrev S56x128x256 : Shape := ⟨3, ![56, 128, 256]⟩
abbrev S4x56x128 : Shape := ⟨3, ![4, 56, 128]⟩
abbrev S4x448x128 : Shape := ⟨3, ![4, 448, 128]⟩
abbrev S4x448x2x128 : Shape := ⟨4, ![4, 448, 2, 128]⟩
abbrev S4x448x1x128 : Shape := ⟨4, ![4, 448, 1, 128]⟩
abbrev S128x128 : Shape := ⟨2, ![128, 128]⟩
abbrev S128x128x1 : Shape := ⟨3, ![128, 128, 1]⟩
abbrev S1x128x128 : Shape := ⟨3, ![1, 128, 128]⟩
abbrev S56x128 : Shape := ⟨2, ![56, 128]⟩
abbrev S1x56x128 : Shape := ⟨3, ![1, 56, 128]⟩
abbrev S4x16x128 : Shape := ⟨3, ![4, 16, 128]⟩
abbrev S64x128 : Shape := ⟨2, ![64, 128]⟩
abbrev S16x128 : Shape := ⟨2, ![16, 128]⟩
abbrev S8x2x128 : Shape := ⟨3, ![8, 2, 128]⟩
abbrev S8x1x128 : Shape := ⟨3, ![8, 1, 128]⟩
abbrev S8x128 : Shape := ⟨2, ![8, 128]⟩
abbrev S32x128 : Shape := ⟨2, ![32, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x1x32x128 : Shape := ⟨4, ![1, 1, 32, 128]⟩
abbrev S32x1x128 : Shape := ⟨3, ![32, 1, 128]⟩
abbrev S32x2x128 : Shape := ⟨3, ![32, 2, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S2x128 : Shape := ⟨2, ![2, 128]⟩
abbrev S1x2x128 : Shape := ⟨3, ![1, 2, 128]⟩
abbrev S256x128 : Shape := ⟨2, ![256, 128]⟩
abbrev S256x512 : Shape := ⟨2, ![256, 512]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S4x128 : Shape := ⟨2, ![4, 128]⟩
abbrev S40x128 : Shape := ⟨2, ![40, 128]⟩
abbrev S128x40 : Shape := ⟨2, ![128, 40]⟩
abbrev S1x128x5120 : Shape := ⟨3, ![1, 128, 5120]⟩
abbrev S1x128x40 : Shape := ⟨3, ![1, 128, 40]⟩

abbrev nBuf : Space → Nat
  | .hbm => 18
  | .vmem => 25
  | .smem => 0
  | _ => 0

abbrev bufTy : (tb : Table) → Fin (tcTables nBuf tb) → BufTy
  | .hbm, ⟨0, _⟩ => ⟨S1x128x14336, .bf16⟩
  | .hbm, ⟨1, _⟩ => ⟨S5120x56x2x64, .i8⟩
  | .hbm, ⟨2, _⟩ => ⟨S5120x56x2x32, .i8⟩
  | .hbm, ⟨3, _⟩ => ⟨S5120x56x16, .i8⟩
  | .hbm, ⟨4, _⟩ => ⟨S5120x56, .f16⟩
  | .hbm, ⟨5, _⟩ => ⟨S56x2x64x5120, .i8⟩
  | .hbm, ⟨6, _⟩ => ⟨S56x2x32x5120, .i8⟩
  | .hbm, ⟨7, _⟩ => ⟨S56x16x5120, .i8⟩
  | .hbm, ⟨8, _⟩ => ⟨S56x5120, .f16⟩
  | .hbm, ⟨9, _⟩ => ⟨S128x14336, .bf16⟩
  | .hbm, ⟨10, _⟩ => ⟨S128x5120, .bf16⟩
  | .hbm, ⟨11, _⟩ => ⟨S128x5120, .fp8e4m3⟩
  | .hbm, ⟨12, _⟩ => ⟨S10x4x128, .f32⟩
  | .hbm, ⟨13, _⟩ => ⟨S40x128, .f32⟩
  | .hbm, ⟨14, _⟩ => ⟨S128x40, .f32⟩
  | .hbm, ⟨15, _⟩ => ⟨S1x128x5120, .bf16⟩
  | .hbm, ⟨16, _⟩ => ⟨S1x128x5120, .fp8e4m3⟩
  | .hbm, ⟨17, _⟩ => ⟨S1x128x40, .f32⟩
  | .local _ .vmem, ⟨0, _⟩ => ⟨S128x14336, .bf16⟩
  | .local _ .vmem, ⟨1, _⟩ => ⟨S56x2x64x512, .i8⟩
  | .local _ .vmem, ⟨2, _⟩ => ⟨S56x2x64x512, .i8⟩
  | .local _ .vmem, ⟨3, _⟩ => ⟨S56x2x32x512, .i8⟩
  | .local _ .vmem, ⟨4, _⟩ => ⟨S56x2x32x512, .i8⟩
  | .local _ .vmem, ⟨5, _⟩ => ⟨S56x16x128, .i8⟩
  | .local _ .vmem, ⟨6, _⟩ => ⟨S56x16x128, .i8⟩
  | .local _ .vmem, ⟨7, _⟩ => ⟨S56x16x128, .i8⟩
  | .local _ .vmem, ⟨8, _⟩ => ⟨S56x16x128, .i8⟩
  | .local _ .vmem, ⟨9, _⟩ => ⟨S56x16x128, .i8⟩
  | .local _ .vmem, ⟨10, _⟩ => ⟨S56x16x128, .i8⟩
  | .local _ .vmem, ⟨11, _⟩ => ⟨S56x16x128, .i8⟩
  | .local _ .vmem, ⟨12, _⟩ => ⟨S56x16x128, .i8⟩
  | .local _ .vmem, ⟨13, _⟩ => ⟨S56x512, .f16⟩
  | .local _ .vmem, ⟨14, _⟩ => ⟨S56x512, .f16⟩
  | .local _ .vmem, ⟨15, _⟩ => ⟨S128x512, .bf16⟩
  | .local _ .vmem, ⟨16, _⟩ => ⟨S128x512, .bf16⟩
  | .local _ .vmem, ⟨17, _⟩ => ⟨S128x512, .fp8e4m3⟩
  | .local _ .vmem, ⟨18, _⟩ => ⟨S128x512, .fp8e4m3⟩
  | .local _ .vmem, ⟨19, _⟩ => ⟨S1x4x128, .f32⟩
  | .local _ .vmem, ⟨20, _⟩ => ⟨S1x4x128, .f32⟩
  | .local _ .vmem, ⟨21, _⟩ => ⟨S56x128x256, .bf16⟩
  | .local _ .vmem, ⟨22, _⟩ => ⟨S4x56x128, .f32⟩
  | .local _ .vmem, ⟨23, _⟩ => ⟨S4x448x2x128, .bf16⟩
  | .local _ .vmem, ⟨24, _⟩ => ⟨S128x512, .f32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_138 : BitVec 32 := 0#32
  let c56_i32_139 : BitVec 32 := 56#32
  let v387 : BitVec 32 := Scalar.addi c0_i32_138 c56_i32_139
  let c1_i32_140 : BitVec 32 := 1#32
  ⟨c0_i32_138, v387, c1_i32_140⟩
def k0_mult1 (k0_t1 : Fin k0_t1_loop.trips) : BitVec 32 :=
  let c0_i32_138 : BitVec 32 := 0#32
  let c1_i32_140 : BitVec 32 := 1#32
  let arg16 : BitVec 32 := Scf.iv c0_i32_138 c1_i32_140 k0_t1
  let c256_i32 : BitVec 32 := 256#32
  let v388 : BitVec 32 := Scalar.muli arg16 c256_i32
  let c0_i32_142 : BitVec 32 := 0#32
  let v389 : BitVec 32 := Scalar.addi v388 c0_i32_142
  v389
def k0_off1 (k0_t1 : Fin k0_t1_loop.trips) (c0_i32_142 : BitVec 32) : Fin 2 → Nat :=
  let c0_143 : Index := 0#32
  let c0_i32_138 : BitVec 32 := 0#32
  let c1_i32_140 : BitVec 32 := 1#32
  let arg16 : BitVec 32 := Scf.iv c0_i32_138 c1_i32_140 k0_t1
  let c256_i32 : BitVec 32 := 256#32
  let v388 : BitVec 32 := Scalar.muli arg16 c256_i32
  let v389 : BitVec 32 := Scalar.addi v388 c0_i32_142
  let v390 : BitVec 32 := v389
  let v391 : Index := Scalar.indexCast v390
  ![0, v391.toNat]
def k0_off2 (k0_t1 : Fin k0_t1_loop.trips) : Fin 3 → Nat :=
  let c0_i32_138 : BitVec 32 := 0#32
  let c1_i32_140 : BitVec 32 := 1#32
  let arg16 : BitVec 32 := Scf.iv c0_i32_138 c1_i32_140 k0_t1
  let v404 : Index := Scalar.indexCast arg16
  let c0_145 : Index := 0#32
  let c0_146 : Index := 0#32
  ![v404.toNat, 0, 0]
def k0_mult2 (k0_t1 : Fin k0_t1_loop.trips) : BitVec 32 :=
  let c0_i32_138 : BitVec 32 := 0#32
  let c1_i32_140 : BitVec 32 := 1#32
  let arg16 : BitVec 32 := Scf.iv c0_i32_138 c1_i32_140 k0_t1
  let c256_i32_147 : BitVec 32 := 256#32
  let v408 : BitVec 32 := Scalar.muli arg16 c256_i32_147
  let c128_i32_148 : BitVec 32 := 128#32
  let v409 : BitVec 32 := Scalar.addi v408 c128_i32_148
  v409
def k0_off3 (k0_t1 : Fin k0_t1_loop.trips) : Fin 3 → Nat :=
  let c0_i32_138 : BitVec 32 := 0#32
  let c1_i32_140 : BitVec 32 := 1#32
  let arg16 : BitVec 32 := Scf.iv c0_i32_138 c1_i32_140 k0_t1
  let v424 : Index := Scalar.indexCast arg16
  let c0_152 : Index := 0#32
  let c128_153 : Index := 128#32
  ![v424.toNat, 0, 128]
@[reducible] def k0_t2_loop : Scf.Loop 32 :=
  let c0_i32_5 : BitVec 32 := 0#32
  let c14_i32 : BitVec 32 := 14#32
  let v9 : BitVec 32 := Scalar.addi c0_i32_5 c14_i32
  let c1_i32 : BitVec 32 := 1#32
  ⟨c0_i32_5, v9, c1_i32⟩
def k0_off4 (k0_t2 : Fin k0_t2_loop.trips) : Fin 3 → Nat :=
  let c4_i32 : BitVec 32 := 4#32
  let c0_i32_5 : BitVec 32 := 0#32
  let c1_i32 : BitVec 32 := 1#32
  let arg16 : BitVec 32 := Scf.iv c0_i32_5 c1_i32 k0_t2
  let v372 : BitVec 32 := Scalar.muli c4_i32 arg16
  let v373 : Index := Scalar.indexCast v372
  let c0_135 : Index := 0#32
  let c0_136 : Index := 0#32
  ![v373.toNat, 0, 0]
def k0_off5 (k0_t2 : Fin k0_t2_loop.trips) (c0_i32_138 : BitVec 32) : Fin 3 → Nat :=
  let c0_139 : Index := 0#32
  let c4_i32_137 : BitVec 32 := 4#32
  let c0_i32_5 : BitVec 32 := 0#32
  let c1_i32 : BitVec 32 := 1#32
  let arg16 : BitVec 32 := Scf.iv c0_i32_5 c1_i32 k0_t2
  let v389 : BitVec 32 := Scalar.muli c4_i32_137 arg16
  let v390 : BitVec 32 := Scalar.addi v389 c0_i32_138
  let v391 : Index := Scalar.indexCast v390
  let c0_140 : Index := 0#32
  ![0, v391.toNat, 0]
def k0_mult3 (k0_t2 : Fin k0_t2_loop.trips) : BitVec 32 :=
  let c32_i32 : BitVec 32 := 32#32
  let c0_i32_5 : BitVec 32 := 0#32
  let c1_i32 : BitVec 32 := 1#32
  let arg16 : BitVec 32 := Scf.iv c0_i32_5 c1_i32 k0_t2
  let v399 : BitVec 32 := Scalar.muli c32_i32 arg16
  let c0_i32_141 : BitVec 32 := 0#32
  let v400 : BitVec 32 := Scalar.addi v399 c0_i32_141
  v400
def k0_off6 (k0_t2 : Fin k0_t2_loop.trips) (c0_i32_141 : BitVec 32) : Fin 4 → Nat :=
  let c0_142 : Index := 0#32
  let c32_i32 : BitVec 32 := 32#32
  let c0_i32_5 : BitVec 32 := 0#32
  let c1_i32 : BitVec 32 := 1#32
  let arg16 : BitVec 32 := Scf.iv c0_i32_5 c1_i32 k0_t2
  let v399 : BitVec 32 := Scalar.muli c32_i32 arg16
  let v400 : BitVec 32 := Scalar.addi v399 c0_i32_141
  let v401 : BitVec 32 := v400
  let v402 : Index := Scalar.indexCast v401
  let c0_143 : Index := 0#32
  ![0, v402.toNat, 0, 0]
def k0_mult4 (k0_t2 : Fin k0_t2_loop.trips) : BitVec 32 :=
  let c32_i32_148 : BitVec 32 := 32#32
  let c0_i32_5 : BitVec 32 := 0#32
  let c1_i32 : BitVec 32 := 1#32
  let arg16 : BitVec 32 := Scf.iv c0_i32_5 c1_i32 k0_t2
  let v416 : BitVec 32 := Scalar.muli c32_i32_148 arg16
  let c8_i32 : BitVec 32 := 8#32
  let v417 : BitVec 32 := Scalar.addi v416 c8_i32
  v417
def k0_mult5 (k0_t2 : Fin k0_t2_loop.trips) : BitVec 32 :=
  let c32_i32_154 : BitVec 32 := 32#32
  let c0_i32_5 : BitVec 32 := 0#32
  let c1_i32 : BitVec 32 := 1#32
  let arg16 : BitVec 32 := Scf.iv c0_i32_5 c1_i32 k0_t2
  let v433 : BitVec 32 := Scalar.muli c32_i32_154 arg16
  let c16_i32 : BitVec 32 := 16#32
  let v434 : BitVec 32 := Scalar.addi v433 c16_i32
  v434
def k0_mult6 (k0_t2 : Fin k0_t2_loop.trips) : BitVec 32 :=
  let c32_i32_160 : BitVec 32 := 32#32
  let c0_i32_5 : BitVec 32 := 0#32
  let c1_i32 : BitVec 32 := 1#32
  let arg16 : BitVec 32 := Scf.iv c0_i32_5 c1_i32 k0_t2
  let v450 : BitVec 32 := Scalar.muli c32_i32_160 arg16
  let c24_i32 : BitVec 32 := 24#32
  let v451 : BitVec 32 := Scalar.addi v450 c24_i32
  v451
@[reducible] def k0_t3_loop : Scf.Loop 32 :=
  let c0_i32_10 : BitVec 32 := 0#32
  let c14_i32_11 : BitVec 32 := 14#32
  let v16 : BitVec 32 := Scalar.addi c0_i32_10 c14_i32_11
  let c1_i32_12 : BitVec 32 := 1#32
  ⟨c0_i32_10, v16, c1_i32_12⟩
def k0_off7 (k0_t3 : Fin k0_t3_loop.trips) : Fin 3 → Nat :=
  let c4_i32 : BitVec 32 := 4#32
  let c0_i32_10 : BitVec 32 := 0#32
  let c1_i32_12 : BitVec 32 := 1#32
  let arg16 : BitVec 32 := Scf.iv c0_i32_10 c1_i32_12 k0_t3
  let v372 : BitVec 32 := Scalar.muli c4_i32 arg16
  let v373 : Index := Scalar.indexCast v372
  let c0_135 : Index := 0#32
  let c0_136 : Index := 0#32
  ![v373.toNat, 0, 0]
def k0_off8 (k0_t3 : Fin k0_t3_loop.trips) (c0_i32_138 : BitVec 32) : Fin 3 → Nat :=
  let c1_139 : Index := 1#32
  let c4_i32_137 : BitVec 32 := 4#32
  let c0_i32_10 : BitVec 32 := 0#32
  let c1_i32_12 : BitVec 32 := 1#32
  let arg16 : BitVec 32 := Scf.iv c0_i32_10 c1_i32_12 k0_t3
  let v389 : BitVec 32 := Scalar.muli c4_i32_137 arg16
  let v390 : BitVec 32 := Scalar.addi v389 c0_i32_138
  let v391 : Index := Scalar.indexCast v390
  let c0_140 : Index := 0#32
  ![1, v391.toNat, 0]
def k0_mult7 (k0_t3 : Fin k0_t3_loop.trips) : BitVec 32 :=
  let c32_i32 : BitVec 32 := 32#32
  let c0_i32_10 : BitVec 32 := 0#32
  let c1_i32_12 : BitVec 32 := 1#32
  let arg16 : BitVec 32 := Scf.iv c0_i32_10 c1_i32_12 k0_t3
  let v399 : BitVec 32 := Scalar.muli c32_i32 arg16
  let c0_i32_141 : BitVec 32 := 0#32
  let v400 : BitVec 32 := Scalar.addi v399 c0_i32_141
  v400
def k0_off9 (k0_t3 : Fin k0_t3_loop.trips) (c0_i32_141 : BitVec 32) : Fin 4 → Nat :=
  let c1_142 : Index := 1#32
  let c32_i32 : BitVec 32 := 32#32
  let c0_i32_10 : BitVec 32 := 0#32
  let c1_i32_12 : BitVec 32 := 1#32
  let arg16 : BitVec 32 := Scf.iv c0_i32_10 c1_i32_12 k0_t3
  let v399 : BitVec 32 := Scalar.muli c32_i32 arg16
  let v400 : BitVec 32 := Scalar.addi v399 c0_i32_141
  let v401 : BitVec 32 := v400
  let v402 : Index := Scalar.indexCast v401
  let c0_143 : Index := 0#32
  ![1, v402.toNat, 0, 0]
def k0_mult8 (k0_t3 : Fin k0_t3_loop.trips) : BitVec 32 :=
  let c32_i32_148 : BitVec 32 := 32#32
  let c0_i32_10 : BitVec 32 := 0#32
  let c1_i32_12 : BitVec 32 := 1#32
  let arg16 : BitVec 32 := Scf.iv c0_i32_10 c1_i32_12 k0_t3
  let v416 : BitVec 32 := Scalar.muli c32_i32_148 arg16
  let c8_i32 : BitVec 32 := 8#32
  let v417 : BitVec 32 := Scalar.addi v416 c8_i32
  v417
def k0_mult9 (k0_t3 : Fin k0_t3_loop.trips) : BitVec 32 :=
  let c32_i32_154 : BitVec 32 := 32#32
  let c0_i32_10 : BitVec 32 := 0#32
  let c1_i32_12 : BitVec 32 := 1#32
  let arg16 : BitVec 32 := Scf.iv c0_i32_10 c1_i32_12 k0_t3
  let v433 : BitVec 32 := Scalar.muli c32_i32_154 arg16
  let c16_i32 : BitVec 32 := 16#32
  let v434 : BitVec 32 := Scalar.addi v433 c16_i32
  v434
def k0_mult10 (k0_t3 : Fin k0_t3_loop.trips) : BitVec 32 :=
  let c32_i32_160 : BitVec 32 := 32#32
  let c0_i32_10 : BitVec 32 := 0#32
  let c1_i32_12 : BitVec 32 := 1#32
  let arg16 : BitVec 32 := Scf.iv c0_i32_10 c1_i32_12 k0_t3
  let v450 : BitVec 32 := Scalar.muli c32_i32_160 arg16
  let c24_i32 : BitVec 32 := 24#32
  let v451 : BitVec 32 := Scalar.addi v450 c24_i32
  v451
@[reducible] def k0_t4_loop : Scf.Loop 32 :=
  let c0_i32_17 : BitVec 32 := 0#32
  let c14_i32_18 : BitVec 32 := 14#32
  let v23 : BitVec 32 := Scalar.addi c0_i32_17 c14_i32_18
  let c1_i32_19 : BitVec 32 := 1#32
  ⟨c0_i32_17, v23, c1_i32_19⟩
def k0_off10 (k0_t4 : Fin k0_t4_loop.trips) : Fin 3 → Nat :=
  let c4_i32 : BitVec 32 := 4#32
  let c0_i32_17 : BitVec 32 := 0#32
  let c1_i32_19 : BitVec 32 := 1#32
  let arg16 : BitVec 32 := Scf.iv c0_i32_17 c1_i32_19 k0_t4
  let v372 : BitVec 32 := Scalar.muli c4_i32 arg16
  let v373 : Index := Scalar.indexCast v372
  let c0_135 : Index := 0#32
  let c0_136 : Index := 0#32
  ![v373.toNat, 0, 0]
def k0_off11 (k0_t4 : Fin k0_t4_loop.trips) (c0_i32_138 : BitVec 32) : Fin 3 → Nat :=
  let c2_139 : Index := 2#32
  let c4_i32_137 : BitVec 32 := 4#32
  let c0_i32_17 : BitVec 32 := 0#32
  let c1_i32_19 : BitVec 32 := 1#32
  let arg16 : BitVec 32 := Scf.iv c0_i32_17 c1_i32_19 k0_t4
  let v389 : BitVec 32 := Scalar.muli c4_i32_137 arg16
  let v390 : BitVec 32 := Scalar.addi v389 c0_i32_138
  let v391 : Index := Scalar.indexCast v390
  let c0_140 : Index := 0#32
  ![2, v391.toNat, 0]
def k0_mult11 (k0_t4 : Fin k0_t4_loop.trips) : BitVec 32 :=
  let c32_i32 : BitVec 32 := 32#32
  let c0_i32_17 : BitVec 32 := 0#32
  let c1_i32_19 : BitVec 32 := 1#32
  let arg16 : BitVec 32 := Scf.iv c0_i32_17 c1_i32_19 k0_t4
  let v399 : BitVec 32 := Scalar.muli c32_i32 arg16
  let c0_i32_141 : BitVec 32 := 0#32
  let v400 : BitVec 32 := Scalar.addi v399 c0_i32_141
  v400
def k0_off12 (k0_t4 : Fin k0_t4_loop.trips) (c0_i32_141 : BitVec 32) : Fin 4 → Nat :=
  let c2_142 : Index := 2#32
  let c32_i32 : BitVec 32 := 32#32
  let c0_i32_17 : BitVec 32 := 0#32
  let c1_i32_19 : BitVec 32 := 1#32
  let arg16 : BitVec 32 := Scf.iv c0_i32_17 c1_i32_19 k0_t4
  let v399 : BitVec 32 := Scalar.muli c32_i32 arg16
  let v400 : BitVec 32 := Scalar.addi v399 c0_i32_141
  let v401 : BitVec 32 := v400
  let v402 : Index := Scalar.indexCast v401
  let c0_143 : Index := 0#32
  ![2, v402.toNat, 0, 0]
def k0_mult12 (k0_t4 : Fin k0_t4_loop.trips) : BitVec 32 :=
  let c32_i32_148 : BitVec 32 := 32#32
  let c0_i32_17 : BitVec 32 := 0#32
  let c1_i32_19 : BitVec 32 := 1#32
  let arg16 : BitVec 32 := Scf.iv c0_i32_17 c1_i32_19 k0_t4
  let v416 : BitVec 32 := Scalar.muli c32_i32_148 arg16
  let c8_i32 : BitVec 32 := 8#32
  let v417 : BitVec 32 := Scalar.addi v416 c8_i32
  v417
def k0_mult13 (k0_t4 : Fin k0_t4_loop.trips) : BitVec 32 :=
  let c32_i32_154 : BitVec 32 := 32#32
  let c0_i32_17 : BitVec 32 := 0#32
  let c1_i32_19 : BitVec 32 := 1#32
  let arg16 : BitVec 32 := Scf.iv c0_i32_17 c1_i32_19 k0_t4
  let v433 : BitVec 32 := Scalar.muli c32_i32_154 arg16
  let c16_i32 : BitVec 32 := 16#32
  let v434 : BitVec 32 := Scalar.addi v433 c16_i32
  v434
def k0_mult14 (k0_t4 : Fin k0_t4_loop.trips) : BitVec 32 :=
  let c32_i32_160 : BitVec 32 := 32#32
  let c0_i32_17 : BitVec 32 := 0#32
  let c1_i32_19 : BitVec 32 := 1#32
  let arg16 : BitVec 32 := Scf.iv c0_i32_17 c1_i32_19 k0_t4
  let v450 : BitVec 32 := Scalar.muli c32_i32_160 arg16
  let c24_i32 : BitVec 32 := 24#32
  let v451 : BitVec 32 := Scalar.addi v450 c24_i32
  v451
@[reducible] def k0_t5_loop : Scf.Loop 32 :=
  let c0_i32_24 : BitVec 32 := 0#32
  let c14_i32_25 : BitVec 32 := 14#32
  let v30 : BitVec 32 := Scalar.addi c0_i32_24 c14_i32_25
  let c1_i32_26 : BitVec 32 := 1#32
  ⟨c0_i32_24, v30, c1_i32_26⟩
def k0_off13 (k0_t5 : Fin k0_t5_loop.trips) : Fin 3 → Nat :=
  let c4_i32 : BitVec 32 := 4#32
  let c0_i32_24 : BitVec 32 := 0#32
  let c1_i32_26 : BitVec 32 := 1#32
  let arg16 : BitVec 32 := Scf.iv c0_i32_24 c1_i32_26 k0_t5
  let v372 : BitVec 32 := Scalar.muli c4_i32 arg16
  let v373 : Index := Scalar.indexCast v372
  let c0_135 : Index := 0#32
  let c0_136 : Index := 0#32
  ![v373.toNat, 0, 0]
def k0_off14 (k0_t5 : Fin k0_t5_loop.trips) (c0_i32_138 : BitVec 32) : Fin 3 → Nat :=
  let c3_139 : Index := 3#32
  let c4_i32_137 : BitVec 32 := 4#32
  let c0_i32_24 : BitVec 32 := 0#32
  let c1_i32_26 : BitVec 32 := 1#32
  let arg16 : BitVec 32 := Scf.iv c0_i32_24 c1_i32_26 k0_t5
  let v389 : BitVec 32 := Scalar.muli c4_i32_137 arg16
  let v390 : BitVec 32 := Scalar.addi v389 c0_i32_138
  let v391 : Index := Scalar.indexCast v390
  let c0_140 : Index := 0#32
  ![3, v391.toNat, 0]
def k0_mult15 (k0_t5 : Fin k0_t5_loop.trips) : BitVec 32 :=
  let c32_i32 : BitVec 32 := 32#32
  let c0_i32_24 : BitVec 32 := 0#32
  let c1_i32_26 : BitVec 32 := 1#32
  let arg16 : BitVec 32 := Scf.iv c0_i32_24 c1_i32_26 k0_t5
  let v399 : BitVec 32 := Scalar.muli c32_i32 arg16
  let c0_i32_141 : BitVec 32 := 0#32
  let v400 : BitVec 32 := Scalar.addi v399 c0_i32_141
  v400
def k0_off15 (k0_t5 : Fin k0_t5_loop.trips) (c0_i32_141 : BitVec 32) : Fin 4 → Nat :=
  let c3_142 : Index := 3#32
  let c32_i32 : BitVec 32 := 32#32
  let c0_i32_24 : BitVec 32 := 0#32
  let c1_i32_26 : BitVec 32 := 1#32
  let arg16 : BitVec 32 := Scf.iv c0_i32_24 c1_i32_26 k0_t5
  let v399 : BitVec 32 := Scalar.muli c32_i32 arg16
  let v400 : BitVec 32 := Scalar.addi v399 c0_i32_141
  let v401 : BitVec 32 := v400
  let v402 : Index := Scalar.indexCast v401
  let c0_143 : Index := 0#32
  ![3, v402.toNat, 0, 0]
def k0_mult16 (k0_t5 : Fin k0_t5_loop.trips) : BitVec 32 :=
  let c32_i32_148 : BitVec 32 := 32#32
  let c0_i32_24 : BitVec 32 := 0#32
  let c1_i32_26 : BitVec 32 := 1#32
  let arg16 : BitVec 32 := Scf.iv c0_i32_24 c1_i32_26 k0_t5
  let v416 : BitVec 32 := Scalar.muli c32_i32_148 arg16
  let c8_i32 : BitVec 32 := 8#32
  let v417 : BitVec 32 := Scalar.addi v416 c8_i32
  v417
def k0_mult17 (k0_t5 : Fin k0_t5_loop.trips) : BitVec 32 :=
  let c32_i32_154 : BitVec 32 := 32#32
  let c0_i32_24 : BitVec 32 := 0#32
  let c1_i32_26 : BitVec 32 := 1#32
  let arg16 : BitVec 32 := Scf.iv c0_i32_24 c1_i32_26 k0_t5
  let v433 : BitVec 32 := Scalar.muli c32_i32_154 arg16
  let c16_i32 : BitVec 32 := 16#32
  let v434 : BitVec 32 := Scalar.addi v433 c16_i32
  v434
def k0_mult18 (k0_t5 : Fin k0_t5_loop.trips) : BitVec 32 :=
  let c32_i32_160 : BitVec 32 := 32#32
  let c0_i32_24 : BitVec 32 := 0#32
  let c1_i32_26 : BitVec 32 := 1#32
  let arg16 : BitVec 32 := Scf.iv c0_i32_24 c1_i32_26 k0_t5
  let v450 : BitVec 32 := Scalar.muli c32_i32_160 arg16
  let c24_i32 : BitVec 32 := 24#32
  let v451 : BitVec 32 := Scalar.addi v450 c24_i32
  v451
@[reducible] def k0_t6_loop : Scf.Loop 32 :=
  let c0_i32_30 : BitVec 32 := 0#32
  let c56_i32 : BitVec 32 := 56#32
  let v35 : BitVec 32 := Scalar.addi c0_i32_30 c56_i32
  let c1_i32_31 : BitVec 32 := 1#32
  ⟨c0_i32_30, v35, c1_i32_31⟩
def k0_off16 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v372 : Index := Scalar.indexCast arg16
  let c0_135 : Index := 0#32
  let c0_136 : Index := 0#32
  let c0_137 : Index := 0#32
  ![v372.toNat, 0, 0, 0]
def k0_off17 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v375 : Index := Scalar.indexCast arg16
  let c0_138 : Index := 0#32
  let c32 : Index := 32#32
  let c0_139 : Index := 0#32
  ![v375.toNat, 0, 32, 0]
def k0_off18 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v378 : Index := Scalar.indexCast arg16
  let c0_140 : Index := 0#32
  let c0_141 : Index := 0#32
  let c0_142 : Index := 0#32
  ![v378.toNat, 0, 0, 0]
def k0_off19 (k0_t6 : Fin k0_t6_loop.trips) (c0_i32_156 : BitVec 32) (c0_i32_157 : BitVec 32) (c0_i32_158 : BitVec 32) : Fin 4 → Nat :=
  let c0_159 : Index := 0#32
  let c8_i32 : BitVec 32 := 8#32
  let c0_i32_30 : BitVec 32 := 0#32
  let c1_i32_31 : BitVec 32 := 1#32
  let arg16 : BitVec 32 := Scf.iv c0_i32_30 c1_i32_31 k0_t6
  let v441 : BitVec 32 := Scalar.muli c8_i32 arg16
  let v442 : BitVec 32 := Scalar.addi v441 c0_i32_156
  let v443 : BitVec 32 := Scalar.addi v442 c0_i32_157
  let v444 : BitVec 32 := Scalar.addi v443 c0_i32_158
  let v445 : Index := Scalar.indexCast v444
  let c0_160 : Index := 0#32
  ![0, v445.toNat, 0, 0]
def k0_off20 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v523 : Index := Scalar.indexCast arg16
  let c1_186 : Index := 1#32
  let c0_187 : Index := 0#32
  let c0_188 : Index := 0#32
  ![v523.toNat, 1, 0, 0]
def k0_off21 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v526 : Index := Scalar.indexCast arg16
  let c1_189 : Index := 1#32
  let c32_190 : Index := 32#32
  let c0_191 : Index := 0#32
  ![v526.toNat, 1, 32, 0]
def k0_off22 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v529 : Index := Scalar.indexCast arg16
  let c1_192 : Index := 1#32
  let c0_193 : Index := 0#32
  let c0_194 : Index := 0#32
  ![v529.toNat, 1, 0, 0]
def k0_off23 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v675 : Index := Scalar.indexCast arg16
  let c0_247 : Index := 0#32
  let c0_248 : Index := 0#32
  let c128_249 : Index := 128#32
  ![v675.toNat, 0, 0, 128]
def k0_off24 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v678 : Index := Scalar.indexCast arg16
  let c0_250 : Index := 0#32
  let c32_251 : Index := 32#32
  let c128_252 : Index := 128#32
  ![v678.toNat, 0, 32, 128]
def k0_off25 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v681 : Index := Scalar.indexCast arg16
  let c0_253 : Index := 0#32
  let c0_254 : Index := 0#32
  let c128_255 : Index := 128#32
  ![v681.toNat, 0, 0, 128]
def k0_off26 (k0_t6 : Fin k0_t6_loop.trips) (c0_i32_277 : BitVec 32) (c0_i32_278 : BitVec 32) (c0_i32_279 : BitVec 32) : Fin 4 → Nat :=
  let c1_280 : Index := 1#32
  let c8_i32_276 : BitVec 32 := 8#32
  let c0_i32_30 : BitVec 32 := 0#32
  let c1_i32_31 : BitVec 32 := 1#32
  let arg16 : BitVec 32 := Scf.iv c0_i32_30 c1_i32_31 k0_t6
  let v744 : BitVec 32 := Scalar.muli c8_i32_276 arg16
  let v745 : BitVec 32 := Scalar.addi v744 c0_i32_277
  let v746 : BitVec 32 := Scalar.addi v745 c0_i32_278
  let v747 : BitVec 32 := Scalar.addi v746 c0_i32_279
  let v748 : Index := Scalar.indexCast v747
  let c0_281 : Index := 0#32
  ![1, v748.toNat, 0, 0]
def k0_off27 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v826 : Index := Scalar.indexCast arg16
  let c1_308 : Index := 1#32
  let c0_309 : Index := 0#32
  let c128_310 : Index := 128#32
  ![v826.toNat, 1, 0, 128]
def k0_off28 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v829 : Index := Scalar.indexCast arg16
  let c1_311 : Index := 1#32
  let c32_312 : Index := 32#32
  let c128_313 : Index := 128#32
  ![v829.toNat, 1, 32, 128]
def k0_off29 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v832 : Index := Scalar.indexCast arg16
  let c1_314 : Index := 1#32
  let c0_315 : Index := 0#32
  let c128_316 : Index := 128#32
  ![v832.toNat, 1, 0, 128]
def k0_off30 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v978 : Index := Scalar.indexCast arg16
  let c0_369 : Index := 0#32
  let c0_370 : Index := 0#32
  let c256_371 : Index := 256#32
  ![v978.toNat, 0, 0, 256]
def k0_off31 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v981 : Index := Scalar.indexCast arg16
  let c0_372 : Index := 0#32
  let c32_373 : Index := 32#32
  let c256_374 : Index := 256#32
  ![v981.toNat, 0, 32, 256]
def k0_off32 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v984 : Index := Scalar.indexCast arg16
  let c0_375 : Index := 0#32
  let c0_376 : Index := 0#32
  let c256_377 : Index := 256#32
  ![v984.toNat, 0, 0, 256]
def k0_off33 (k0_t6 : Fin k0_t6_loop.trips) (c0_i32_399 : BitVec 32) (c0_i32_400 : BitVec 32) (c0_i32_401 : BitVec 32) : Fin 4 → Nat :=
  let c2_402 : Index := 2#32
  let c8_i32_398 : BitVec 32 := 8#32
  let c0_i32_30 : BitVec 32 := 0#32
  let c1_i32_31 : BitVec 32 := 1#32
  let arg16 : BitVec 32 := Scf.iv c0_i32_30 c1_i32_31 k0_t6
  let v1047 : BitVec 32 := Scalar.muli c8_i32_398 arg16
  let v1048 : BitVec 32 := Scalar.addi v1047 c0_i32_399
  let v1049 : BitVec 32 := Scalar.addi v1048 c0_i32_400
  let v1050 : BitVec 32 := Scalar.addi v1049 c0_i32_401
  let v1051 : Index := Scalar.indexCast v1050
  let c0_403 : Index := 0#32
  ![2, v1051.toNat, 0, 0]
def k0_off34 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1129 : Index := Scalar.indexCast arg16
  let c1_430 : Index := 1#32
  let c0_431 : Index := 0#32
  let c256_432 : Index := 256#32
  ![v1129.toNat, 1, 0, 256]
def k0_off35 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1132 : Index := Scalar.indexCast arg16
  let c1_433 : Index := 1#32
  let c32_434 : Index := 32#32
  let c256_435 : Index := 256#32
  ![v1132.toNat, 1, 32, 256]
def k0_off36 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1135 : Index := Scalar.indexCast arg16
  let c1_436 : Index := 1#32
  let c0_437 : Index := 0#32
  let c256_438 : Index := 256#32
  ![v1135.toNat, 1, 0, 256]
def k0_off37 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1281 : Index := Scalar.indexCast arg16
  let c0_491 : Index := 0#32
  let c0_492 : Index := 0#32
  let c384_493 : Index := 384#32
  ![v1281.toNat, 0, 0, 384]
def k0_off38 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1284 : Index := Scalar.indexCast arg16
  let c0_494 : Index := 0#32
  let c32_495 : Index := 32#32
  let c384_496 : Index := 384#32
  ![v1284.toNat, 0, 32, 384]
def k0_off39 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1287 : Index := Scalar.indexCast arg16
  let c0_497 : Index := 0#32
  let c0_498 : Index := 0#32
  let c384_499 : Index := 384#32
  ![v1287.toNat, 0, 0, 384]
def k0_off40 (k0_t6 : Fin k0_t6_loop.trips) (c0_i32_521 : BitVec 32) (c0_i32_522 : BitVec 32) (c0_i32_523 : BitVec 32) : Fin 4 → Nat :=
  let c3_524 : Index := 3#32
  let c8_i32_520 : BitVec 32 := 8#32
  let c0_i32_30 : BitVec 32 := 0#32
  let c1_i32_31 : BitVec 32 := 1#32
  let arg16 : BitVec 32 := Scf.iv c0_i32_30 c1_i32_31 k0_t6
  let v1350 : BitVec 32 := Scalar.muli c8_i32_520 arg16
  let v1351 : BitVec 32 := Scalar.addi v1350 c0_i32_521
  let v1352 : BitVec 32 := Scalar.addi v1351 c0_i32_522
  let v1353 : BitVec 32 := Scalar.addi v1352 c0_i32_523
  let v1354 : Index := Scalar.indexCast v1353
  let c0_525 : Index := 0#32
  ![3, v1354.toNat, 0, 0]
def k0_off41 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1432 : Index := Scalar.indexCast arg16
  let c1_552 : Index := 1#32
  let c0_553 : Index := 0#32
  let c384_554 : Index := 384#32
  ![v1432.toNat, 1, 0, 384]
def k0_off42 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1435 : Index := Scalar.indexCast arg16
  let c1_555 : Index := 1#32
  let c32_556 : Index := 32#32
  let c384_557 : Index := 384#32
  ![v1435.toNat, 1, 32, 384]
def k0_off43 (k0_t6 : Fin k0_t6_loop.trips) : Fin 4 → Nat :=
  let c0_i32_30 : BitVec 32 := 0#32
  let c1_i32_31 : BitVec 32 := 1#32
  let arg16 : BitVec 32 := Scf.iv c0_i32_30 c1_i32_31 k0_t6
  let v1438 : Index := Scalar.indexCast arg16
  let c1_558 : Index := 1#32
  let c0_559 : Index := 0#32
  let c384_560 : Index := 384#32
  ![v1438.toNat, 1, 0, 384]
def k0_off44 (k0_t6 : Fin k0_t6_loop.trips) : Fin 3 → Nat :=
  let c0_i32_30 : BitVec 32 := 0#32
  let c1_i32_31 : BitVec 32 := 1#32
  let arg16 : BitVec 32 := Scf.iv c0_i32_30 c1_i32_31 k0_t6
  let v1586 : Index := Scalar.indexCast arg16
  let c0_615 : Index := 0#32
  let c0_616 : Index := 0#32
  ![v1586.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![c0_i32.toNat, c0_i32_0.toNat, v1.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![c0_i32.toNat, c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S56x2x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x2x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x16x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x16x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S56x16x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S56x512 .f16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x128x14336 : Shape := ⟨3, ![1, 128, 14336]⟩
abbrev S5120x56x2x64 : Shape := ⟨4, ![5120, 56, 2, 64]⟩
abbrev S5120x56x2x32 : Shape := ⟨4, ![5120, 56, 2, 32]⟩
abbrev S5120x56x16 : Shape := ⟨3, ![5120, 56, 16]⟩
abbrev S5120x56 : Shape := ⟨2, ![5120, 56]⟩
abbrev S_ : Shape := ⟨0, ![]⟩
abbrev S5120x56x2x1x32 : Shape := ⟨5, ![5120, 56, 2, 1, 32]⟩
abbrev S5120x56x2x4x32 : Shape := ⟨5, ![5120, 56, 2, 4, 32]⟩
abbrev S5120x14336 : Shape := ⟨2, ![5120, 14336]⟩
abbrev S5120x56x16x1 : Shape := ⟨4, ![5120, 56, 16, 1]⟩
abbrev S5120x56x16x16 : Shape := ⟨4, ![5120, 56, 16, 16]⟩
abbrev S5120x56x1 : Shape := ⟨3, ![5120, 56, 1]⟩
abbrev S5120x56x256 : Shape := ⟨3, ![5120, 56, 256]⟩
abbrev S128x14336 : Shape := ⟨2, ![128, 14336]⟩
abbrev S1x128x5120 : Shape := ⟨3, ![1, 128, 5120]⟩
abbrev S1x128x40 : Shape := ⟨3, ![1, 128, 40]⟩
abbrev S128x5120 : Shape := ⟨2, ![128, 5120]⟩
abbrev S128x40x128 : Shape := ⟨3, ![128, 40, 128]⟩
abbrev S128x40 : Shape := ⟨2, ![128, 40]⟩
abbrev S128x40x1 : Shape := ⟨3, ![128, 40, 1]⟩
abbrev S1x1x252 : Shape := ⟨3, ![1, 1, 252]⟩
abbrev S128x40x252 : Shape := ⟨3, ![128, 40, 252]⟩

abbrev nBuf : Space → Nat
  | .hbm => 74
  | .vmem => 7
  | .smem => 0
  | _ => 0

abbrev bufTy : (tb : Table) → Fin (tcTables nBuf tb) → BufTy
  | .hbm, ⟨0, _⟩ => ⟨S1x128x14336, .bf16⟩
  | .hbm, ⟨1, _⟩ => ⟨S5120x56x2x64, .i8⟩
  | .hbm, ⟨2, _⟩ => ⟨S5120x56x2x32, .i8⟩
  | .hbm, ⟨3, _⟩ => ⟨S5120x56x16, .i8⟩
  | .hbm, ⟨4, _⟩ => ⟨S5120x56, .f16⟩
  | .hbm, ⟨5, _⟩ => ⟨S5120x56x2x64, .i32⟩
  | .hbm, ⟨6, _⟩ => ⟨S5120x56x2x32, .i32⟩
  | .hbm, ⟨7, _⟩ => ⟨S5120x56x2x32, .i32⟩
  | .hbm, ⟨8, _⟩ => ⟨S5120x56x2x32, .i32⟩
  | .hbm, ⟨9, _⟩ => ⟨S_, .i32⟩
  | .hbm, ⟨10, _⟩ => ⟨S5120x56x2x32, .i32⟩
  | .hbm, ⟨11, _⟩ => ⟨S5120x56x2x32, .i32⟩
  | .hbm, ⟨12, _⟩ => ⟨S_, .i32⟩
  | .hbm, ⟨13, _⟩ => ⟨S5120x56x2x32, .i32⟩
  | .hbm, ⟨14, _⟩ => ⟨S5120x56x2x32, .i32⟩
  | .hbm, ⟨15, _⟩ => ⟨S_, .i32⟩
  | .hbm, ⟨16, _⟩ => ⟨S5120x56x2x32, .i32⟩
  | .hbm, ⟨17, _⟩ => ⟨S5120x56x2x32, .i32⟩
  | .hbm, ⟨18, _⟩ => ⟨S5120x56x2x32, .i32⟩
  | .hbm, ⟨19, _⟩ => ⟨S_, .i32⟩
  | .hbm, ⟨20, _⟩ => ⟨S5120x56x2x32, .i32⟩
  | .hbm, ⟨21, _⟩ => ⟨S5120x56x2x32, .i32⟩
  | .hbm, ⟨22, _⟩ => ⟨S_, .i32⟩
  | .hbm, ⟨23, _⟩ => ⟨S5120x56x2x32, .i32⟩
  | .hbm, ⟨24, _⟩ => ⟨S5120x56x2x32, .i32⟩
  | .hbm, ⟨25, _⟩ => ⟨S_, .i32⟩
  | .hbm, ⟨26, _⟩ => ⟨S5120x56x2x32, .i32⟩
  | .hbm, ⟨27, _⟩ => ⟨S5120x56x2x32, .i32⟩
  | .hbm, ⟨28, _⟩ => ⟨S_, .i32⟩
  | .hbm, ⟨29, _⟩ => ⟨S5120x56x2x32, .i32⟩
  | .hbm, ⟨30, _⟩ => ⟨S5120x56x2x32, .i32⟩
  | .hbm, ⟨31, _⟩ => ⟨S5120x56x2x32, .i32⟩
  | .hbm, ⟨32, _⟩ => ⟨S_, .i32⟩
  | .hbm, ⟨33, _⟩ => ⟨S5120x56x2x32, .i32⟩
  | .hbm, ⟨34, _⟩ => ⟨S5120x56x2x32, .i32⟩
  | .hbm, ⟨35, _⟩ => ⟨S_, .i32⟩
  | .hbm, ⟨36, _⟩ => ⟨S5120x56x2x32, .i32⟩
  | .hbm, ⟨37, _⟩ => ⟨S5120x56x2x32, .i32⟩
  | .hbm, ⟨38, _⟩ => ⟨S_, .i32⟩
  | .hbm, ⟨39, _⟩ => ⟨S5120x56x2x32, .i32⟩
  | .hbm, ⟨40, _⟩ => ⟨S5120x56x2x32, .i32⟩
  | .hbm, ⟨41, _⟩ => ⟨S_, .i32⟩
  | .hbm, ⟨42, _⟩ => ⟨S5120x56x2x32, .i32⟩
  | .hbm, ⟨43, _⟩ => ⟨S5120x56x2x32, .i32⟩
  | .hbm, ⟨44, _⟩ => ⟨S5120x56x2x32, .i32⟩
  | .hbm, ⟨45, _⟩ => ⟨S_, .i32⟩
  | .hbm, ⟨46, _⟩ => ⟨S5120x56x2x32, .i32⟩
  | .hbm, ⟨47, _⟩ => ⟨S5120x56x2x32, .i32⟩
  | .hbm, ⟨48, _⟩ => ⟨S_, .i32⟩
  | .hbm, ⟨49, _⟩ => ⟨S5120x56x2x32, .i32⟩
  | .hbm, ⟨50, _⟩ => ⟨S5120x56x2x32, .i32⟩
  | .hbm, ⟨51, _⟩ => ⟨S_, .i32⟩
  | .hbm, ⟨52, _⟩ => ⟨S5120x56x2x32, .i32⟩
  | .hbm, ⟨53, _⟩ => ⟨S5120x56x2x32, .i32⟩
  | .hbm, ⟨54, _⟩ => ⟨S_, .i32⟩
  | .hbm, ⟨55, _⟩ => ⟨S5120x56x2x32, .i32⟩
  | .hbm, ⟨56, _⟩ => ⟨S5120x56x2x32, .i32⟩
  | .hbm, ⟨57, _⟩ => ⟨S5120x56x2x32, .i32⟩
  | .hbm, ⟨58, _⟩ => ⟨S5120x56x2x1x32, .i32⟩
  | .hbm, ⟨59, _⟩ => ⟨S5120x56x2x1x32, .i32⟩
  | .hbm, ⟨60, _⟩ => ⟨S5120x56x2x1x32, .i32⟩
  | .hbm, ⟨61, _⟩ => ⟨S5120x56x2x1x32, .i32⟩
  | .hbm, ⟨62, _⟩ => ⟨S5120x56x2x4x32, .i32⟩
  | .hbm, ⟨63, _⟩ => ⟨S5120x14336, .i32⟩
  | .hbm, ⟨64, _⟩ => ⟨S5120x56x16x1, .i8⟩
  | .hbm, ⟨65, _⟩ => ⟨S5120x56x16x16, .i8⟩
  | .hbm, ⟨66, _⟩ => ⟨S5120x14336, .i8⟩
  | .hbm, ⟨67, _⟩ => ⟨S5120x56x1, .f16⟩
  | .hbm, ⟨68, _⟩ => ⟨S5120x56x256, .f16⟩
  | .hbm, ⟨69, _⟩ => ⟨S5120x14336, .f16⟩
  | .hbm, ⟨70, _⟩ => ⟨S128x14336, .bf16⟩
  | .hbm, ⟨71, _⟩ => ⟨S1x128x5120, .bf16⟩
  | .hbm, ⟨72, _⟩ => ⟨S1x128x5120, .fp8e4m3⟩
  | .hbm, ⟨73, _⟩ => ⟨S1x128x40, .f32⟩
  | .local _ .vmem, ⟨0, _⟩ => ⟨S128x14336, .bf16⟩
  | .local _ .vmem, ⟨1, _⟩ => ⟨S5120x14336, .i32⟩
  | .local _ .vmem, ⟨2, _⟩ => ⟨S5120x14336, .i8⟩
  | .local _ .vmem, ⟨3, _⟩ => ⟨S5120x14336, .f16⟩
  | .local _ .vmem, ⟨4, _⟩ => ⟨S1x128x5120, .bf16⟩
  | .local _ .vmem, ⟨5, _⟩ => ⟨S1x128x5120, .fp8e4m3⟩
  | .local _ .vmem, ⟨6, _⟩ => ⟨S1x128x40, .f32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_c_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_10 : Ref sig .tc := ⟨.hbm, 45, rfl⟩
abbrev main_v29 : Ref sig .tc := ⟨.hbm, 46, rfl⟩
abbrev main_v30 : Ref sig .tc := ⟨.hbm, 47, rfl⟩
abbrev main_c_11 : Ref sig .tc := ⟨.hbm, 48, rfl⟩
abbrev main_v31 : Ref sig .tc := ⟨.hbm, 49, rfl⟩
abbrev main_v32 : Ref sig .tc := ⟨.hbm, 50, rfl⟩
abbrev main_c_12 : Ref sig .tc := ⟨.hbm, 51, rfl⟩
abbrev main_v33 : Ref sig .tc := ⟨.hbm, 52, rfl⟩
abbrev main_v34 : Ref sig .tc := ⟨.hbm, 53, rfl⟩
abbrev main_c_13 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51_0 : Ref sig .tc := ⟨.hbm, 71, rfl⟩
abbrev main_v51_1 : Ref sig .tc := ⟨.hbm, 72, rfl⟩
abbrev main_v51_2 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x14336 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x14336 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x14336 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
/- What the two cases of the kernel body share: the staging buffers and scratch by name, the branch on the first grid point in closed form, and how the frame follows from a run of the pipeline. -/
module

public import proofs.«01_k».proof.Proof.Gen.Kernel.Frame
public import proofs.«01_k».proof.Proof.Gen.Kernel.Loops
public import proofs.«01_k».proof.Proof.Gen.Kernel.Skeleton
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of_R (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## The kernel body on any staging memrefs: a subtype the run finds -/

/-- Each window's current staging memref at point `t`, spelled as the pipeline passes it (`bodyAt0`), and its wholeness. -/
abbrev ms0_0 (t : Fin cfg0.N) : Memref sig .tc .vmem S128x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S56x2x64x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S56x2x32x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x16x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S56x16x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S56x16x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S56x16x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S56x512 .f16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S56x128x256 .bf16 := Memref.whole cc0_scratch0
abbrev scM0_1 : Memref sig .tc .vmem S4x56x128 .f32 := Memref.whole cc0_scratch1
abbrev scM0_2 : Memref sig .tc .vmem S4x448x128 .i32 := Memref.whole cc0_scratch2
abbrev scM0_3 : Memref sig .tc .vmem S128x512 .f32 := Memref.whole cc0_scratch3
/-- The scratch `arg12` the kernel carries between points, as a view: what it holds is stated through it. -/
abbrev VS0_0 : View sig .tc .vmem S56x128x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Body

end
-- ==== Proof.KernelRunA.lean ====
/- The kernel body run at the first grid point. -/
module

public import proofs.«01_k».proof.Proof.KernelRuns

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body at the first grid point: from the staged inputs at their contents and every other buffer at anything it
    runs to its end, the inputs unchanged and every other buffer at something. -/
theorem kernelRun0_A (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x128 .i32) (harg14 : arg14.IsWhole) (arg15 : Memref sig .tc .vmem S128x512 .f32) (harg15 : arg15.IsWhole) (hc0 : cond0_0 i)
    (x0 : Vec F S128x14336 .bf16) (x1 : Vec F S56x2x64x512 .i8) (x2 : Vec F S56x2x32x512 .i8) (x3 : Vec F S56x16x128 .i8) (x4 : Vec F S56x16x128 .i8) (x5 : Vec F S56x16x128 .i8) (x6 : Vec F S56x16x128 .i8) (x7 : Vec F S56x512 .f16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_q6k_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  · skip
    simp only [cc0_q6k_linear_eq_skeleton]; unfold cc0_q6k_linear_skel
    simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Body

end
-- ==== Proof.KernelRunB.lean ====
/- The kernel body run at a later grid point. -/
module

public import proofs.«01_k».proof.Proof.KernelRunA

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body at a later grid point: from the staged inputs at their contents and every other buffer at anything it
    runs to its end, the inputs unchanged and every other buffer at something. -/
theorem kernelRun0_B (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x128 .i32) (harg14 : arg14.IsWhole) (arg15 : Memref sig .tc .vmem S128x512 .f32) (harg15 : arg15.IsWhole) (hc0 : ¬cond0_0 i)
    (x0 : Vec F S128x14336 .bf16) (x1 : Vec F S56x2x64x512 .i8) (x2 : Vec F S56x2x32x512 .i8) (x3 : Vec F S56x16x128 .i8) (x4 : Vec F S56x16x128 .i8) (x5 : Vec F S56x16x128 .i8) (x6 : Vec F S56x16x128 .i8) (x7 : Vec F S56x512 .f16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_q6k_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  · skip
    simp only [cc0_q6k_linear_eq_skeleton]; unfold cc0_q6k_linear_skel
    simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Body

end
-- ==== Proof.KernelFrame.lean ====
/- The frame of the kernel: every run ends, the arguments unchanged and every semaphore at zero. -/
module

public import proofs.«01_k».proof.Proof.KernelRunB

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, PhiA0_eq]
  by_cases h0 : t.val % 10 = 0
  · skip
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · skip
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_track_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_R m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.KernelIdealRuns.lean ====
/- What the two cases of the kernel body share: the staging buffers and scratch by name, the branch on the first grid point in closed form, and how the frame follows from a run of the pipeline. -/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of_R (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## The kernel body on any staging memrefs: a subtype the run finds -/

/-- Each window's current staging memref at point `t`, spelled as the pipeline passes it (`bodyAt0`), and its wholeness. -/
abbrev ms0_0 (t : Fin cfg0.N) : Memref sig .tc .vmem S128x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S56x2x64x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S56x2x32x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x16x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S56x16x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S56x16x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S56x16x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S56x512 .f16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S56x128x256 .bf16 := Memref.whole cc0_scratch0
abbrev scM0_1 : Memref sig .tc .vmem S4x56x128 .f32 := Memref.whole cc0_scratch1
abbrev scM0_2 : Memref sig .tc .vmem S4x448x2x128 .bf16 := Memref.whole cc0_scratch2
abbrev scM0_3 : Memref sig .tc .vmem S128x512 .f32 := Memref.whole cc0_scratch3
/-- The scratch `arg12` the kernel carries between points, as a view: what it holds is stated through it. -/
abbrev VS0_0 : View sig .tc .vmem S56x128x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.KernelIdealRunA.lean ====
/- The kernel body run at the first grid point. -/
module

public import proofs.«01_k».proof.Proof.KernelIdealRuns

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body at the first grid point: from the staged inputs at their contents and every other buffer at anything it
    runs to its end, the inputs unchanged and every other buffer at something. -/
theorem kernelRun0_A (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x2x128 .bf16) (harg14 : arg14.IsWhole) (arg15 : Memref sig .tc .vmem S128x512 .f32) (harg15 : arg15.IsWhole) (hc0 : cond0_0 i)
    (x0 : Vec F S128x14336 .bf16) (x1 : Vec F S56x2x64x512 .i8) (x2 : Vec F S56x2x32x512 .i8) (x3 : Vec F S56x16x128 .i8) (x4 : Vec F S56x16x128 .i8) (x5 : Vec F S56x16x128 .i8) (x6 : Vec F S56x16x128 .i8) (x7 : Vec F S56x512 .f16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_q6k_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  · skip
    simp only [cc0_q6k_linear_eq_skeleton]; unfold cc0_q6k_linear_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.KernelIdealRunB.lean ====
/- The kernel body run at a later grid point. -/
module

public import proofs.«01_k».proof.Proof.KernelIdealRunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body at a later grid point: from the staged inputs at their contents and every other buffer at anything it
    runs to its end, the inputs unchanged and every other buffer at something. -/
theorem kernelRun0_B (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x2x128 .bf16) (harg14 : arg14.IsWhole) (arg15 : Memref sig .tc .vmem S128x512 .f32) (harg15 : arg15.IsWhole) (hc0 : ¬cond0_0 i)
    (x0 : Vec F S128x14336 .bf16) (x1 : Vec F S56x2x64x512 .i8) (x2 : Vec F S56x2x32x512 .i8) (x3 : Vec F S56x16x128 .i8) (x4 : Vec F S56x16x128 .i8) (x5 : Vec F S56x16x128 .i8) (x6 : Vec F S56x16x128 .i8) (x7 : Vec F S56x512 .f16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_q6k_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  · skip
    simp only [cc0_q6k_linear_eq_skeleton]; unfold cc0_q6k_linear_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.KernelIdealFrame.lean ====
/- The frame of the kernel: every run ends, the arguments unchanged and every semaphore at zero. -/
module

public import proofs.«01_k».proof.Proof.KernelIdealRunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, PhiA0_eq]
  by_cases h0 : t.val % 10 = 0
  · skip
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · skip
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_track_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_R m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Bytes.lean ====
/- Bytes and 32-bit words of a matrix: reading rows of bytes as words and back; the nibble and bit-pair arithmetic of
   the kernel, byte by byte. -/
module

public import Idealize.ShloMosaic.Lib.Pointwise
public import Idealize.ShloMosaic.Lib.BitcastFour

@[expose] public section

set_option maxRecDepth 16384

namespace Cert.KernelIdeal.Body

open Idealize.ShloMosaic

/-- A row of words read as four rows of bytes: bit `q` of byte row `p` is bit `8 (p % 4) + q` of word row `p / 4`. -/
theorem bitcast_32_8_getLsbD {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hrow : (⟨2, ![R, n]⟩ : Shape).row (ix2 p l) = p.val := rfl
  congr 2
  · funext b
    apply Fin.ext
    have hb2 : b.val < 2 := b.isLt
    by_cases hb : b.val + 2 = 2
    · obtain rfl : b = (0 : Fin 2) := Fin.ext (by show b.val = 0; omega)
      rw [Shape.Bitcasts.srcIdx_row h _ _ _ _ hb, hrow]
      show (p.val * 8 + q) / 32 = a.val
      omega
    · obtain rfl : b = (1 : Fin 2) := Fin.ext (by show b.val = 1; omega)
      rw [Shape.Bitcasts.srcIdx_other h _ _ _ _ hb]
      rfl
  · rw [hrow]; omega

/-- Rows of bytes read as words: bit `q` of word row `a` is bit `q % 8` of byte row `4 a + q / 8`. -/
theorem bitcast_8_32_getLsbD' {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) := by
  have := bitcast_8_32_getLsbD_ix2 x h a l q hq p hp
  exact this

/-- An exclusive or of each word with `0xAAAAAAAA` is one of each byte with `0xAA`. -/
theorem xor_words_apply {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) (hr : p.val / 4 < r) :
    bitcast ⟨2, ![R, n]⟩ 8 (xori (bitcast ⟨2, ![r, n]⟩ 32 x h) (broadcast ⟨2, ![r, n]⟩ 2863311530#32)) h' (ix2 p l)
      = x (ix2 p l) ^^^ 0xAA#8 := by
  apply BitVec.eq_of_getLsbD_eq
  intro q hq
  rw [bitcast_32_8_getLsbD _ h' p l q hq ⟨p.val / 4, hr⟩ rfl]
  show (bitcast ⟨2, ![r, n]⟩ 32 x h (ix2 ⟨p.val / 4, hr⟩ l) ^^^ 2863311530#32).getLsbD _ = _
  rw [BitVec.getLsbD_xor, BitVec.getLsbD_xor,
    bitcast_8_32_getLsbD' x h ⟨p.val / 4, hr⟩ l _ (by omega) p (by show p.val = 4 * (p.val / 4) + _; omega)]
  have h1 : (8 * (p.val % 4) + q) % 8 = q := by omega
  rw [h1]
  congr 1
  have h4 : p.val % 4 < 4 := by omega
  generalize p.val % 4 = t at h4
  interval_cases t <;> interval_cases q <;> rfl

/-- The low half of each byte after its word is shifted down by four bits is the byte's high half. -/
theorem shift_words_getLsbD {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) (hr : p.val / 4 < r) (q : Nat) (hq : q < 4) :
    (bitcast ⟨2, ![R, n]⟩ 8 (shrui (bitcast ⟨2, ![r, n]⟩ 32 x h) (broadcast ⟨2, ![r, n]⟩ 4#32)) h' (ix2 p l)).getLsbD q
      = (x (ix2 p l)).getLsbD (q + 4) := by
  rw [bitcast_32_8_getLsbD _ h' p l q (by omega) ⟨p.val / 4, hr⟩ rfl]
  show (bitcast ⟨2, ![r, n]⟩ 32 x h (ix2 ⟨p.val / 4, hr⟩ l) >>> 4).getLsbD _ = _
  rw [BitVec.getLsbD_ushiftRight,
    bitcast_8_32_getLsbD' x h ⟨p.val / 4, hr⟩ l _ (by omega) p (by show p.val = 4 * (p.val / 4) + _; omega)]
  congr 1
  omega

/-- A byte's low (`k = 0`) or high half. -/
def nib (b : BitVec 8) (k : Nat) : Nat := b.toNat / 16 ^ k % 16

/-- The `c`-th pair of bits of a byte. -/
def crumb (b : BitVec 8) (c : Nat) : Nat := b.toNat / 4 ^ c % 4

theorem BitVec8.forall (P : BitVec 8 → Prop) (h : ∀ n : Fin 256, P (BitVec.ofNat 8 n.val)) : ∀ b, P b := fun b => by
  have := h ⟨b.toNat, b.isLt⟩
  simpa using this

/-- The byte of two half-bytes that the kernel holds the high bits of planes `c` and `c + 1` in. -/
theorem top_even : ∀ b : BitVec 8,
    BitVec.setWidth 8 (IntOp.ori (IntOp.andi (IntOp.shrsi ArithUnit.vector (IntOp.shli ArithUnit.vector (BitVec.signExtend 32 (b ^^^ 170#8)) 30#32) 30#32) 15#32)
      (IntOp.shli ArithUnit.vector (IntOp.shrsi ArithUnit.vector (IntOp.shli ArithUnit.vector (BitVec.signExtend 32 (b ^^^ 170#8)) 28#32) 30#32) 4#32))
      = BitVec.ofNat 8 ((crumb b 0 + 14) % 16 + 16 * ((crumb b 1 + 14) % 16)) :=
  BitVec8.forall _ (by decide +kernel)

theorem top_odd : ∀ b : BitVec 8,
    BitVec.setWidth 8 (IntOp.ori (IntOp.andi (IntOp.shrsi ArithUnit.vector (IntOp.shli ArithUnit.vector (BitVec.signExtend 32 (b ^^^ 170#8)) 26#32) 30#32) 15#32)
      (IntOp.shli ArithUnit.vector (IntOp.shrsi ArithUnit.vector (IntOp.shli ArithUnit.vector (BitVec.signExtend 32 (b ^^^ 170#8)) 24#32) 30#32) 4#32))
      = BitVec.ofNat 8 ((crumb b 2 + 14) % 16 + 16 * ((crumb b 3 + 14) % 16)) :=
  BitVec8.forall _ (by decide +kernel)

theorem low_even : ∀ b : BitVec 8,
    IntOp.andi (BitVec.signExtend 32 (BitVec.setWidth 8 (IntOp.shrsi ArithUnit.vector (IntOp.shli ArithUnit.vector (BitVec.setWidth 32 b) 28#32) 28#32))) 15#32
      = BitVec.ofNat 32 (nib b 0) :=
  BitVec8.forall _ (by decide +kernel)

theorem low_odd : ∀ b : BitVec 8,
    IntOp.andi (BitVec.signExtend 32 (BitVec.setWidth 8 (IntOp.shrsi ArithUnit.vector (IntOp.shli ArithUnit.vector (BitVec.setWidth 32 b) 24#32) 28#32))) 15#32
      = BitVec.ofNat 32 (nib b 1) :=
  BitVec8.forall _ (by decide +kernel)

/-- The high bits of a code from a byte that holds them, less two, in its low half. -/
theorem high_part : ∀ b : BitVec 8, IntOp.shrsi ArithUnit.vector (IntOp.shli ArithUnit.vector (BitVec.signExtend 32 b) 28#32) 24#32
      = BitVec.ofInt 32 (16 * (((nib b 0 : Nat) : Int) - (if nib b 0 < 8 then 0 else 16))) :=
  BitVec8.forall _ (by decide +kernel)

/-- A four-bit code and two high bits joined and centred. -/
theorem join_code : ∀ (n : Fin 16) (c : Fin 4),
    (BitVec.setWidth 8 (IntOp.ori (BitVec.ofNat 32 n.val) (BitVec.ofInt 32 (16 * ((c.val : Int) - 2))))).toInt
      = (n.val : Int) + 16 * c.val - 32 := by decide +kernel

/-- A byte's low half is its first four bits. -/
theorem nib_zero_eq_of_bits {b b' : BitVec 8} (h : ∀ q < 4, b.getLsbD q = b'.getLsbD (q + 4)) : nib b 0 = nib b' 1 := by
  unfold nib
  apply Nat.eq_of_testBit_eq
  intro i
  have e1 : b.toNat / 16 ^ 0 % 16 = b.toNat % 2 ^ 4 := by simp
  have e2 : b'.toNat / 16 ^ 1 % 16 = (b'.toNat >>> 4) % 2 ^ 4 := by simp [Nat.shiftRight_eq_div_pow]
  rw [e1, e2, Nat.testBit_mod_two_pow, Nat.testBit_mod_two_pow, Nat.testBit_shiftRight]
  by_cases hi : i < 4
  · have := h i hi
    unfold BitVec.getLsbD at this
    rw [this, Nat.add_comm]
  · simp [hi]

theorem high_crumb : ∀ (c : Fin 4), (((((c.val + 14) % 16 : Nat) : Int)) - (if (c.val + 14) % 16 < 8 then 0 else 16)) = (c.val : Int) - 2 := by
  decide

theorem nib_join : ∀ (m n : Fin 16), nib (BitVec.ofNat 8 (m.val + 16 * n.val)) 0 = m.val ∧ nib (BitVec.ofNat 8 (m.val + 16 * n.val)) 1 = n.val := by
  decide +kernel

end Cert.KernelIdeal.Body
-- ==== Proof.ScalePack.lean ====
/- The sub-block scales as the kernel packs them: which scale byte meets which super-block scale in each row of its scratch. -/
module

public import proofs.«01_k».proof.Proof.Gen.KernelIdeal.Skeleton
public import Idealize.ShloMosaic.Lib.Pointwise
public import proofs.«01_k».proof.Proof.Bytes

@[expose] public section

set_option maxRecDepth 16384

noncomputable section

namespace Cert.KernelIdeal.Body

open Idealize.ShloMosaic Cert.KernelIdeal.Gen

/-- Of bytes read as words, some of the words read as bytes again: each is the byte it was. -/
theorem byte_of_word {R r R' r' n : Nat} (y : (⟨2, ![R, n]⟩ : Shape).Idx → BitVec 8)
    (h : (⟨2, ![R, n]⟩ : Shape).Bitcasts 8 ⟨2, ![r, n]⟩ 32) (w : (⟨2, ![r', n]⟩ : Shape).Idx → BitVec 32)
    (h' : (⟨2, ![r', n]⟩ : Shape).Bitcasts 32 ⟨2, ![R', n]⟩ 8)
    (p : Fin R') (l : Fin n) (a : Fin r') (a2 : Fin r) (p2 : Fin R) (ha : a.val = p.val / 4)
    (hw : w (ix2 a l) = bitcast ⟨2, ![r, n]⟩ 32 y h (ix2 a2 l)) (hp : p2.val = 4 * a2.val + p.val % 4) :
    bitcast ⟨2, ![R', n]⟩ 8 w h' (ix2 p l) = y (ix2 p2 l) := by
  apply BitVec.eq_of_getLsbD_eq
  intro q hq
  rw [bitcast_32_8_getLsbD _ h' p l q hq a ha, hw, bitcast_8_32_getLsbD' y h a2 l _ (by omega) p2 (by omega)]
  congr 1
  omega

theorem ix3_eq {A B C : ℕ} {a a' : Fin A} {b b' : Fin B} (ha : a = a') (hb : b = b') (c : Fin C) : ix3 a b c = ix3 a' b' c := by
  subst ha hb
  rfl

variable (v : Vec Ideal S4x16x128 .i8) (ρ : Fin 32) (l : Fin 128)

/-- The scale bytes of the first half of the columns of their super-blocks. -/
theorem evenRows_apply : k0_pay3 (F := Ideal) v (ix2 ρ l)
    = (((v (ix3 ⟨ρ.val / 8, by omega⟩ ⟨8 * (ρ.val % 8 / 4) + ρ.val % 4, by omega⟩ l)).toInt : ℝ) : EReal) := by
  pointwise [k0_pay3]
  rw [byte_of_word (shapeCast S64x128 (shapeCast S4x16x128 v shapeCasts_S4x16x128_S4x16x128) shapeCasts_S4x16x128_S64x128)
    bitcasts_S64x128_w8_S16x128_w32 _ _ ρ l ⟨ρ.val / 4, by omega⟩ ⟨ρ.val / 4 * 2, by omega⟩ ⟨8 * (ρ.val / 4) + ρ.val % 4, by omega⟩ rfl
    (by
      unfold k0_pay2
      pointwise) (by show 8 * (ρ.val / 4) + ρ.val % 4 = 4 * (ρ.val / 4 * 2) + ρ.val % 4; omega)]
  pointwise
  refine congrArg (fun z : BitVec 8 => ((z.toInt : ℝ) : EReal)) (congrArg v (ix3_eq (Fin.ext ?_) (Fin.ext ?_) l))
  · show _ = ρ.val / 8
    simp only
    omega
  · simp only
    omega

/-- The scale bytes of the second half. -/
theorem oddRows_apply : k0_pay4 (F := Ideal) v (ix2 ρ l)
    = (((v (ix3 ⟨ρ.val / 8, by omega⟩ ⟨8 * (ρ.val % 8 / 4) + 4 + ρ.val % 4, by omega⟩ l)).toInt : ℝ) : EReal) := by
  pointwise [k0_pay4]
  rw [byte_of_word (shapeCast S64x128 (shapeCast S4x16x128 v shapeCasts_S4x16x128_S4x16x128) shapeCasts_S4x16x128_S64x128)
    bitcasts_S64x128_w8_S16x128_w32 _ _ ρ l ⟨ρ.val / 4, by omega⟩ ⟨ρ.val / 4 * 2 + 1, by omega⟩ ⟨8 * (ρ.val / 4) + 4 + ρ.val % 4, by omega⟩ rfl
    (by
      unfold k0_pay2
      pointwise) (by show 8 * (ρ.val / 4) + 4 + ρ.val % 4 = 4 * (ρ.val / 4 * 2 + 1) + ρ.val % 4; omega)]
  pointwise
  refine congrArg (fun z : BitVec 8 => ((z.toInt : ℝ) : EReal)) (congrArg v (ix3_eq (Fin.ext ?_) (Fin.ext ?_) l))
  · show _ = ρ.val / 8
    simp only
    omega
  · simp only
    omega

variable (d : Vec Ideal S1x8x128 .f32) (b : Fin 8) (f : Fin 2)

/-- A scale byte of four super-blocks: row `ρ` of thirty-two, half `f`. -/
def scaleByte (v : Vec Ideal S4x16x128 .i8) (ρ : Fin 32) (f : Fin 2) (l : Fin 128) : EReal :=
  (((v (ix3 ⟨ρ.val / 8, by omega⟩ ⟨8 * (ρ.val % 8 / 4) + 4 * f.val + ρ.val % 4, by omega⟩ l)).toInt : ℝ) : EReal)

theorem evenRows_eq : k0_pay3 (F := Ideal) v (ix2 ρ l) = scaleByte v ρ 0 l := evenRows_apply v ρ l
theorem oddRows_eq : k0_pay4 (F := Ideal) v (ix2 ρ l) = scaleByte v ρ 1 l := oddRows_apply v ρ l

/-- The first eight rows that a trip packs. -/
theorem pack0_apply : k0_pay5 (F := Ideal) v d (ix4 0 b f l) = scaleByte v ⟨b.val, by omega⟩ f l * d (ix3 0 b l) := by
  have hf : f = 0 ∨ f = 1 := by omega
  rcases hf with rfl | rfl
  · pointwise [k0_pay5, evenRows_eq, oddRows_eq]
  · pointwise [k0_pay5, evenRows_eq, oddRows_eq]

/-- The next eight. -/
theorem pack1_apply : k0_pay6 (F := Ideal) (k0_pay3 v) (k0_pay4 v) d (ix4 0 b f l)
    = scaleByte v ⟨8 + b.val, by omega⟩ f l * d (ix3 0 b l) := by
  have hf : f = 0 ∨ f = 1 := by omega
  rcases hf with rfl | rfl
  · pointwise [k0_pay6, evenRows_eq, oddRows_eq]
  · pointwise [k0_pay6, evenRows_eq, oddRows_eq]

theorem pack2_apply : k0_pay7 (F := Ideal) (k0_pay3 v) (k0_pay4 v) d (ix4 0 b f l)
    = scaleByte v ⟨16 + b.val, by omega⟩ f l * d (ix3 0 b l) := by
  have hf : f = 0 ∨ f = 1 := by omega
  rcases hf with rfl | rfl
  · pointwise [k0_pay7, evenRows_eq, oddRows_eq]
  · pointwise [k0_pay7, evenRows_eq, oddRows_eq]

theorem pack3_apply : k0_pay136 (F := Ideal) (k0_pay3 v) (k0_pay4 v) d (ix4 0 b f l)
    = scaleByte v ⟨24 + b.val, by omega⟩ f l * d (ix3 0 b l) := by
  have hf : f = 0 ∨ f = 1 := by omega
  rcases hf with rfl | rfl
  · pointwise [k0_pay136, evenRows_eq, oddRows_eq]
  · pointwise [k0_pay136, evenRows_eq, oddRows_eq]

end Cert.KernelIdeal.Body
-- ==== Proof.ScaleLoops.lean ====
/- What the loops over the super-blocks leave in the scratch of scales. -/
module

public import proofs.«01_k».proof.Proof.Gen.KernelIdeal.Loops
public import Idealize.ShloMosaic.Lib.Pointwise
public import Idealize.ShloMosaic.Lib.WritesUnit
public import proofs.«01_k».proof.Proof.ScalePack

@[expose] public section

set_option maxRecDepth 16384

noncomputable section

namespace Cert.KernelIdeal.Body

open Idealize.ShloMosaic Idealize.ShloMosaic.TcCoe Cert.KernelIdeal.Gen

/-- Four stores of eight rows each, one below another from row `32 m` of slab `g`. -/
theorem read_trip {κ : Kind} {sp : Space} (v : View sig κ sp S4x448x2x128 .bf16) (f : v.ty.Contents (Elt Ideal))
    (L : List (View.Piece (Elt Ideal) S4x448x2x128 .bf16)) (g : Fin 4) (m : ℕ)
    {o0 o1 o2 o3 : Fin 4 → ℕ} (i0 : ∀ a, o0 a + S1x8x2x128.size a ≤ S4x448x2x128.size a) (i1 : ∀ a, o1 a + S1x8x2x128.size a ≤ S4x448x2x128.size a)
    (i2 : ∀ a, o2 a + S1x8x2x128.size a ≤ S4x448x2x128.size a) (i3 : ∀ a, o3 a + S1x8x2x128.size a ≤ S4x448x2x128.size a)
    (w0 w1 w2 w3 : Vec Ideal S1x8x2x128 .bf16) (S : Vec Ideal S4x448x2x128 .bf16)
    (e0 : o0 = ![g.val, 32 * m, 0, 0]) (e1 : o1 = ![g.val, 32 * m + 8, 0, 0]) (e2 : o2 = ![g.val, 32 * m + 16, 0, 0])
    (e3 : o3 = ![g.val, 32 * m + 24, 0, 0])
    (h0 : ∀ (ρ : Fin 448) (b : Fin 8) (h : Fin 2) (l : Fin 128), ρ.val = 32 * m + b.val → w0 (ix4 0 b h l) = S (ix4 g ρ h l))
    (h1 : ∀ (ρ : Fin 448) (b : Fin 8) (h : Fin 2) (l : Fin 128), ρ.val = 32 * m + 8 + b.val → w1 (ix4 0 b h l) = S (ix4 g ρ h l))
    (h2 : ∀ (ρ : Fin 448) (b : Fin 8) (h : Fin 2) (l : Fin 128), ρ.val = 32 * m + 16 + b.val → w2 (ix4 0 b h l) = S (ix4 g ρ h l))
    (h3 : ∀ (ρ : Fin 448) (b : Fin 8) (h : Fin 2) (l : Fin 128), ρ.val = 32 * m + 24 + b.val → w3 (ix4 0 b h l) = S (ix4 g ρ h l))
    (g' : Fin 4) (ρ : Fin 448) (h : Fin 2) (l : Fin 128) :
    v.read (Elt Ideal) (v.writes (Elt Ideal) f (⟨Rect.unit o3 S1x8x2x128.size i3, w3⟩ :: ⟨Rect.unit o2 S1x8x2x128.size i2, w2⟩
        :: ⟨Rect.unit o1 S1x8x2x128.size i1, w1⟩ :: ⟨Rect.unit o0 S1x8x2x128.size i0, w0⟩ :: L)) (ix4 g' ρ h l)
      = if g' = g ∧ 32 * m ≤ ρ.val ∧ ρ.val < 32 * m + 32 then S (ix4 g' ρ h l)
        else v.read (Elt Ideal) (v.writes (Elt Ideal) f L) (ix4 g' ρ h l) := by
  have hmiss (o : Fin 4 → ℕ) (i : ∀ a, o a + S1x8x2x128.size a ≤ S4x448x2x128.size a) (w : Vec Ideal S1x8x2x128 .bf16)
      (L : List (View.Piece (Elt Ideal) S4x448x2x128 .bf16)) (n : ℕ) (e : o = ![g.val, n, 0, 0])
      (hm : ¬ (g' = g ∧ n ≤ ρ.val ∧ ρ.val < n + 8)) :
      v.read (Elt Ideal) (v.writes (Elt Ideal) f (⟨Rect.unit o S1x8x2x128.size i, w⟩ :: L)) (ix4 g' ρ h l)
        = v.read (Elt Ideal) (v.writes (Elt Ideal) f L) (ix4 g' ρ h l) := by
    by_cases hg : g' = g
    · exact View.read_writes_cons_unit_of_not_mem v f i w L (ix4 g' ρ h l) e (1 : Fin 4) (by
        show ρ.val < n ∨ n + 8 ≤ ρ.val
        omega)
    · exact View.read_writes_cons_unit_of_not_mem v f i w L (ix4 g' ρ h l) e (0 : Fin 4) (by
        show g'.val < g.val ∨ g.val + 1 ≤ g'.val
        have : g'.val ≠ g.val := fun h => hg (Fin.ext h)
        omega)
  have hhit (o : Fin 4 → ℕ) (i : ∀ a, o a + S1x8x2x128.size a ≤ S4x448x2x128.size a) (w : Vec Ideal S1x8x2x128 .bf16)
      (L : List (View.Piece (Elt Ideal) S4x448x2x128 .bf16)) (n : ℕ) (e : o = ![g.val, n, 0, 0])
      (hw : ∀ (ρ : Fin 448) (b : Fin 8) (h : Fin 2) (l : Fin 128), ρ.val = n + b.val → w (ix4 0 b h l) = S (ix4 g ρ h l))
      (hg : g' = g) (hm : n ≤ ρ.val ∧ ρ.val < n + 8) :
      v.read (Elt Ideal) (v.writes (Elt Ideal) f (⟨Rect.unit o S1x8x2x128.size i, w⟩ :: L)) (ix4 g' ρ h l) = S (ix4 g' ρ h l) := by
    subst hg
    rw [← hw ρ ⟨ρ.val - n, by omega⟩ h l (by show ρ.val = n + (ρ.val - n); omega)]
    exact View.read_writes_cons_unit_of_mem v f i w L (ix4 g' ρ h l) (ix4 0 ⟨ρ.val - n, by omega⟩ h l) e (by
      intro a
      fin_cases a
      · rfl
      · show ρ.val = n + (ρ.val - n); omega
      · exact (Nat.zero_add _).symm
      · exact (Nat.zero_add _).symm)
  by_cases hg : g' = g
  · by_cases c3 : 32 * m + 24 ≤ ρ.val ∧ ρ.val < 32 * m + 24 + 8
    · rw [hhit _ _ _ _ _ e3 h3 hg c3, if_pos ⟨hg, by omega, by omega⟩]
    rw [hmiss _ _ _ _ _ e3 fun c => c3 c.2]
    by_cases c2 : 32 * m + 16 ≤ ρ.val ∧ ρ.val < 32 * m + 16 + 8
    · rw [hhit _ _ _ _ _ e2 h2 hg c2, if_pos ⟨hg, by omega, by omega⟩]
    rw [hmiss _ _ _ _ _ e2 fun c => c2 c.2]
    by_cases c1 : 32 * m + 8 ≤ ρ.val ∧ ρ.val < 32 * m + 8 + 8
    · rw [hhit _ _ _ _ _ e1 h1 hg c1, if_pos ⟨hg, by omega, by omega⟩]
    rw [hmiss _ _ _ _ _ e1 fun c => c1 c.2]
    by_cases c0 : 32 * m ≤ ρ.val ∧ ρ.val < 32 * m + 8
    · rw [hhit _ _ _ _ _ e0 h0 hg c0, if_pos ⟨hg, by omega, by omega⟩]
    rw [hmiss _ _ _ _ _ e0 fun c => c0 c.2, if_neg (by omega)]
  · rw [hmiss _ _ _ _ _ e3 fun c => hg c.1, hmiss _ _ _ _ _ e2 fun c => hg c.1, hmiss _ _ _ _ _ e1 fun c => hg c.1,
      hmiss _ _ _ _ _ e0 fun c => hg c.1, if_neg fun c => hg c.1]

/-- An element of a load through a box: the buffer's element at the box's offset. -/
theorem readAt_unit {κ : Kind} {sp : Space} {sh : Shape} {e : EltTy} (v : View sig κ sp sh e) {off off' size : Fin sh.rank → ℕ}
    (inb : ∀ a, off a + size a ≤ sh.size a) (X : v.ty.Contents (Elt Ideal)) (heq : off = off')
    (x : (Rect.unit off size inb).shape.Idx) (y : sh.Idx) (h : ∀ a, (y a).val = off' a + (x a).val) :
    v.readAt (Elt Ideal) (Rect.unit off size inb).toLoadRect X x = v.read (Elt Ideal) X y := by
  subst heq
  rw [View.readAt_eq_ld]
  exact congrArg (v.read (Elt Ideal) X) (funext fun a => Fin.ext (by
    show off a + 1 * (x a).val = (y a).val
    rw [h a, Nat.one_mul]))

/-- Eight loads of one row, as one load whose rows lie at stride zero. -/
theorem readAt_row (v : View sig .tc .vmem S4x56x128 .f32) {off : Fin 3 → ℕ}
    (inb : ∀ a : Fin 3, S1x8x128.size a = 0 ∨ off a + (![1, 0, 1] : Fin 3 → Nat) a * (S1x8x128.size a - 1) < S4x56x128.size a)
    (X : v.ty.Contents (Elt Ideal)) (g : Fin 4) (n : Fin 56) (heq : off = ![g.val, n.val, 0]) (b : Fin 8) (l : Fin 128) :
    v.readAt (Elt Ideal) (⟨off, S1x8x128.size, ![1, 0, 1], inb⟩ : LoadRect S4x56x128) X (ix3 0 b l) = v.read (Elt Ideal) X (ix3 g n l) := by
  subst heq
  rw [View.readAt_apply]
  refine congrArg (v.read (Elt Ideal) X) (funext fun a => Fin.ext ?_)
  fin_cases a
  · show g.val + 1 * 0 = g.val; omega
  · show n.val + 0 * b.val = n.val; omega
  · show 0 + 1 * l.val = l.val; omega

/-- What slab `g` of the scratch holds: in row `8 n + 4 h + r`, half `f`, the product of super-block `n`'s scale and of
    its sub-block scale `8 h + 4 f + r`. -/
def slab (sc : Vec Ideal S56x16x128 .i8) (df : Vec Ideal S4x56x128 .f32) (g : Fin 4) (ρ : Fin 448) (f : Fin 2) (l : Fin 128) : EReal :=
  (((sc (ix3 ⟨ρ.val / 8, by omega⟩ ⟨8 * (ρ.val % 8 / 4) + 4 * f.val + ρ.val % 4, by omega⟩ l)).toInt : ℝ) : EReal)
    * df (ix3 g ⟨ρ.val / 8, by omega⟩ l)

theorem slab_of_trip (sc : Vec Ideal S56x16x128 .i8) (df : Vec Ideal S4x56x128 .f32) (g : Fin 4) (m r : ℕ) (hr : r < 4) (hm : m < 14)
    (v : Vec Ideal S4x16x128 .i8) (d : Vec Ideal S1x8x128 .f32)
    (hv : ∀ (a : Fin 4) (n : Fin 56) (t : Fin 16) (l : Fin 128), n.val = 4 * m + a.val → v (ix3 a t l) = sc (ix3 n t l))
    (hd : ∀ (b : Fin 8) (l : Fin 128), d (ix3 0 b l) = df (ix3 g ⟨4 * m + r, by omega⟩ l))
    (ρ : Fin 448) (b : Fin 8) (h : Fin 2) (l : Fin 128) (hρ : ρ.val = 32 * m + 8 * r + b.val) (ρ' : Fin 32) (hρ' : ρ'.val = 8 * r + b.val) :
    scaleByte v ρ' h l * d (ix3 0 b l) = slab sc df g ρ h l := by
  unfold scaleByte slab
  rw [hd, hv _ ⟨ρ.val / 8, by omega⟩ _ _ (by show ρ.val / 8 = 4 * m + ρ'.val / 8; omega)]
  congr 1
  · refine congrArg (fun z : BitVec 8 => ((z.toInt : ℝ) : EReal)) (congrArg sc (ix3_eq rfl (Fin.ext ?_) l))
    show 8 * (ρ'.val % 8 / 4) + 4 * h.val + ρ'.val % 4 = 8 * (ρ.val % 8 / 4) + 4 * h.val + ρ.val % 4
    omega
  · exact congrArg df (ix3_eq rfl (Fin.ext (by show 4 * m + r = ρ.val / 8; omega)) l)

/-- A choice by slab and rows of one trip, then by the rows of the trips before, is a choice by all their rows. -/
theorem ite_trips {α : Type} (p : Prop) [Decidable p] (ρ n : ℕ) (a b : α) :
    (if p ∧ 32 * n ≤ ρ ∧ ρ < 32 * n + 32 then a else if p ∧ ρ < 32 * n then a else b) = if p ∧ ρ < 32 * (n + 1) then a else b := by
  by_cases hp : p
  · by_cases h1 : 32 * n ≤ ρ ∧ ρ < 32 * n + 32
    · rw [if_pos ⟨hp, h1⟩, if_pos ⟨hp, by omega⟩]
    · rw [if_neg fun h => h1 h.2]
      by_cases h2 : ρ < 32 * n
      · rw [if_pos ⟨hp, h2⟩, if_pos ⟨hp, by omega⟩]
      · rw [if_neg fun h => h2 h.2, if_neg fun h => by have := h.2; omega]
  · rw [if_neg fun h => hp h.1, if_neg fun h => hp h.1, if_neg fun h => hp h.1]

variable (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x2x128 .bf16) (harg14 : arg14.IsWhole) (arg15 : Memref sig .tc .vmem S128x512 .f32) (harg15 : arg15.IsWhole)
variable (X13 : BufTy.Contents (Elt Ideal) arg13.view.ty) (f : BufTy.Contents (Elt Ideal) arg14.view.ty)
  (L : List (View.Piece (Elt Ideal) S4x448x2x128 .bf16)) (g' : Fin 4) (ρ : Fin 448) (h : Fin 2) (l : Fin 128)

/-- One trip of the loop of slab 0: four super-blocks' rows. -/
theorem trip0_apply (X : BufTy.Contents (Elt Ideal) arg4.view.ty) (k : Fin k0_t2_loop.trips) :
    arg14.view.read (Elt Ideal) (arg14.view.writes (Elt Ideal) f (tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 k ++ L)) (ix4 g' ρ h l)
      = if g' = 0 ∧ 32 * k.val ≤ ρ.val ∧ ρ.val < 32 * k.val + 32 then
          slab (arg4.view.read (Elt Ideal) X) (arg13.view.read (Elt Ideal) X13) g' ρ h l
        else arg14.view.read (Elt Ideal) (arg14.view.writes (Elt Ideal) f L) (ix4 g' ρ h l) := by
  have hk : k.val < 14 := Nat.lt_of_lt_of_le k.isLt k0_t2_abs.2.1
  let V : Vec Ideal S4x16x128 .i8 :=
    arg4.view.readAt (Elt Ideal) (Rect.unit (s := S56x16x128) (k0_off4 k) S4x16x128.size (Gen.k0_off4_inb k)).toLoadRect X
  let D (r : Fin 4) : Vec Ideal S1x8x128 .f32 := arg13.view.readAt (Elt Ideal)
    (⟨k0_off5 k (BitVec.ofNat 32 r.val), S1x8x128.size, ![1, 0, 1], Gen.k0_off5_inb k r⟩ : LoadRect S4x56x128) X13
  have hv (a : Fin 4) (n : Fin 56) (t : Fin 16) (l : Fin 128) (hn : n.val = 4 * k.val + a.val) :
      V (ix3 a t l) = arg4.view.read (Elt Ideal) X (ix3 n t l) :=
    readAt_unit _ _ _ (k0_off4_eq k) _ _ (by
      intro a
      fin_cases a
      · exact hn
      · exact (Nat.zero_add _).symm
      · exact (Nat.zero_add _).symm)
  have hd (r : Fin 4) (b : Fin 8) (l : Fin 128) : D r (ix3 0 b l) = arg13.view.read (Elt Ideal) X13 (ix3 0 ⟨4 * k.val + r.val, by omega⟩ l) :=
    readAt_row arg13.view (Gen.k0_off5_inb k r) X13 0 ⟨4 * k.val + r.val, by omega⟩ (k0_off5_eq k r) b l
  unfold tripL_k0_t2 trip_k0_t2
  dsimp only
  rw [List.cons_append, List.cons_append, List.cons_append, List.cons_append, List.nil_append]
  refine read_trip arg14.view f L 0 k.val _ _ _ _ _ _ _ _ (fun y => slab (arg4.view.read (Elt Ideal) X) (arg13.view.read (Elt Ideal) X13) (y 0) (y 1) (y 2) (y 3))
    (k0_off6_eq k 0) (k0_off6_eq k 1) (k0_off6_eq k 2) (k0_off6_eq k 3) ?_ ?_ ?_ ?_ g' ρ h l <;> intro ρ b h l hρ
  · exact (pack0_apply V l (D 0) b h).trans (slab_of_trip _ _ 0 k.val 0 (by decide) hk V (D 0) hv (hd 0) ρ b h l (by omega) _ (by simp))
  · exact (pack1_apply V l (D 1) b h).trans (slab_of_trip _ _ 0 k.val 1 (by decide) hk V (D 1) hv (hd 1) ρ b h l (by omega) _ (by simp))
  · exact (pack2_apply V l (D 2) b h).trans (slab_of_trip _ _ 0 k.val 2 (by decide) hk V (D 2) hv (hd 2) ρ b h l (by omega) _ (by simp))
  · exact (pack3_apply V l (D 3) b h).trans (slab_of_trip _ _ 0 k.val 3 (by decide) hk V (D 3) hv (hd 3) ρ b h l (by omega) _ (by simp))

/-- The trips before `n` leave their rows of slab 0, and everything else as it was. -/
theorem loop0_apply (X : BufTy.Contents (Elt Ideal) arg4.view.ty) : ∀ n, n ≤ k0_t2_loop.trips →
    arg14.view.read (Elt Ideal) (arg14.view.writes (Elt Ideal) f (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 n ++ L)) (ix4 g' ρ h l)
      = if g' = 0 ∧ ρ.val < 32 * n then slab (arg4.view.read (Elt Ideal) X) (arg13.view.read (Elt Ideal) X13) g' ρ h l
        else arg14.view.read (Elt Ideal) (arg14.view.writes (Elt Ideal) f L) (ix4 g' ρ h l)
  | 0, _ => by
    rw [if_neg fun h => by have := h.2; omega]
    rfl
  | n + 1, hn => by
    rw [pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 ⟨n, hn⟩, List.append_assoc, trip0_apply, loop0_apply X n (Nat.le_of_succ_le hn)]
    exact ite_trips _ _ _ _ _

/-- One trip of the loop of slab 1: four super-blocks' rows. -/
theorem trip1_apply (X : BufTy.Contents (Elt Ideal) arg5.view.ty) (k : Fin k0_t3_loop.trips) :
    arg14.view.read (Elt Ideal) (arg14.view.writes (Elt Ideal) f (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 k ++ L)) (ix4 g' ρ h l)
      = if g' = 1 ∧ 32 * k.val ≤ ρ.val ∧ ρ.val < 32 * k.val + 32 then
          slab (arg5.view.read (Elt Ideal) X) (arg13.view.read (Elt Ideal) X13) g' ρ h l
        else arg14.view.read (Elt Ideal) (arg14.view.writes (Elt Ideal) f L) (ix4 g' ρ h l) := by
  have hk : k.val < 14 := Nat.lt_of_lt_of_le k.isLt k0_t3_abs.2.1
  let V : Vec Ideal S4x16x128 .i8 :=
    arg5.view.readAt (Elt Ideal) (Rect.unit (s := S56x16x128) (k0_off7 k) S4x16x128.size (Gen.k0_off7_inb k)).toLoadRect X
  let D (r : Fin 4) : Vec Ideal S1x8x128 .f32 := arg13.view.readAt (Elt Ideal)
    (⟨k0_off8 k (BitVec.ofNat 32 r.val), S1x8x128.size, ![1, 0, 1], Gen.k0_off8_inb k r⟩ : LoadRect S4x56x128) X13
  have hv (a : Fin 4) (n : Fin 56) (t : Fin 16) (l : Fin 128) (hn : n.val = 4 * k.val + a.val) :
      V (ix3 a t l) = arg5.view.read (Elt Ideal) X (ix3 n t l) :=
    readAt_unit _ _ _ (k0_off7_eq k) _ _ (by
      intro a
      fin_cases a
      · exact hn
      · exact (Nat.zero_add _).symm
      · exact (Nat.zero_add _).symm)
  have hd (r : Fin 4) (b : Fin 8) (l : Fin 128) : D r (ix3 0 b l) = arg13.view.read (Elt Ideal) X13 (ix3 1 ⟨4 * k.val + r.val, by omega⟩ l) :=
    readAt_row arg13.view (Gen.k0_off8_inb k r) X13 1 ⟨4 * k.val + r.val, by omega⟩ (k0_off8_eq k r) b l
  unfold tripL_k0_t3 trip_k0_t3
  dsimp only
  rw [List.cons_append, List.cons_append, List.cons_append, List.cons_append, List.nil_append]
  refine read_trip arg14.view f L 1 k.val _ _ _ _ _ _ _ _ (fun y => slab (arg5.view.read (Elt Ideal) X) (arg13.view.read (Elt Ideal) X13) (y 0) (y 1) (y 2) (y 3))
    (k0_off9_eq k 0) (k0_off9_eq k 1) (k0_off9_eq k 2) (k0_off9_eq k 3) ?_ ?_ ?_ ?_ g' ρ h l <;> intro ρ b h l hρ
  · exact (pack0_apply V l (D 0) b h).trans (slab_of_trip _ _ 1 k.val 0 (by decide) hk V (D 0) hv (hd 0) ρ b h l (by omega) _ (by simp))
  · exact (pack1_apply V l (D 1) b h).trans (slab_of_trip _ _ 1 k.val 1 (by decide) hk V (D 1) hv (hd 1) ρ b h l (by omega) _ (by simp))
  · exact (pack2_apply V l (D 2) b h).trans (slab_of_trip _ _ 1 k.val 2 (by decide) hk V (D 2) hv (hd 2) ρ b h l (by omega) _ (by simp))
  · exact (pack3_apply V l (D 3) b h).trans (slab_of_trip _ _ 1 k.val 3 (by decide) hk V (D 3) hv (hd 3) ρ b h l (by omega) _ (by simp))

/-- The trips before `n` leave their rows of slab 1, and everything else as it was. -/
theorem loop1_apply (X : BufTy.Contents (Elt Ideal) arg5.view.ty) : ∀ n, n ≤ k0_t3_loop.trips →
    arg14.view.read (Elt Ideal) (arg14.view.writes (Elt Ideal) f (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 n ++ L)) (ix4 g' ρ h l)
      = if g' = 1 ∧ ρ.val < 32 * n then slab (arg5.view.read (Elt Ideal) X) (arg13.view.read (Elt Ideal) X13) g' ρ h l
        else arg14.view.read (Elt Ideal) (arg14.view.writes (Elt Ideal) f L) (ix4 g' ρ h l)
  | 0, _ => by
    rw [if_neg fun h => by have := h.2; omega]
    rfl
  | n + 1, hn => by
    rw [pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 ⟨n, hn⟩, List.append_assoc, trip1_apply, loop1_apply X n (Nat.le_of_succ_le hn)]
    exact ite_trips _ _ _ _ _

/-- One trip of the loop of slab 2: four super-blocks' rows. -/
theorem trip2_apply (X : BufTy.Contents (Elt Ideal) arg6.view.ty) (k : Fin k0_t4_loop.trips) :
    arg14.view.read (Elt Ideal) (arg14.view.writes (Elt Ideal) f (tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 k ++ L)) (ix4 g' ρ h l)
      = if g' = 2 ∧ 32 * k.val ≤ ρ.val ∧ ρ.val < 32 * k.val + 32 then
          slab (arg6.view.read (Elt Ideal) X) (arg13.view.read (Elt Ideal) X13) g' ρ h l
        else arg14.view.read (Elt Ideal) (arg14.view.writes (Elt Ideal) f L) (ix4 g' ρ h l) := by
  have hk : k.val < 14 := Nat.lt_of_lt_of_le k.isLt k0_t4_abs.2.1
  let V : Vec Ideal S4x16x128 .i8 :=
    arg6.view.readAt (Elt Ideal) (Rect.unit (s := S56x16x128) (k0_off10 k) S4x16x128.size (Gen.k0_off10_inb k)).toLoadRect X
  let D (r : Fin 4) : Vec Ideal S1x8x128 .f32 := arg13.view.readAt (Elt Ideal)
    (⟨k0_off11 k (BitVec.ofNat 32 r.val), S1x8x128.size, ![1, 0, 1], Gen.k0_off11_inb k r⟩ : LoadRect S4x56x128) X13
  have hv (a : Fin 4) (n : Fin 56) (t : Fin 16) (l : Fin 128) (hn : n.val = 4 * k.val + a.val) :
      V (ix3 a t l) = arg6.view.read (Elt Ideal) X (ix3 n t l) :=
    readAt_unit _ _ _ (k0_off10_eq k) _ _ (by
      intro a
      fin_cases a
      · exact hn
      · exact (Nat.zero_add _).symm
      · exact (Nat.zero_add _).symm)
  have hd (r : Fin 4) (b : Fin 8) (l : Fin 128) : D r (ix3 0 b l) = arg13.view.read (Elt Ideal) X13 (ix3 2 ⟨4 * k.val + r.val, by omega⟩ l) :=
    readAt_row arg13.view (Gen.k0_off11_inb k r) X13 2 ⟨4 * k.val + r.val, by omega⟩ (k0_off11_eq k r) b l
  unfold tripL_k0_t4 trip_k0_t4
  dsimp only
  rw [List.cons_append, List.cons_append, List.cons_append, List.cons_append, List.nil_append]
  refine read_trip arg14.view f L 2 k.val _ _ _ _ _ _ _ _ (fun y => slab (arg6.view.read (Elt Ideal) X) (arg13.view.read (Elt Ideal) X13) (y 0) (y 1) (y 2) (y 3))
    (k0_off12_eq k 0) (k0_off12_eq k 1) (k0_off12_eq k 2) (k0_off12_eq k 3) ?_ ?_ ?_ ?_ g' ρ h l <;> intro ρ b h l hρ
  · exact (pack0_apply V l (D 0) b h).trans (slab_of_trip _ _ 2 k.val 0 (by decide) hk V (D 0) hv (hd 0) ρ b h l (by omega) _ (by simp))
  · exact (pack1_apply V l (D 1) b h).trans (slab_of_trip _ _ 2 k.val 1 (by decide) hk V (D 1) hv (hd 1) ρ b h l (by omega) _ (by simp))
  · exact (pack2_apply V l (D 2) b h).trans (slab_of_trip _ _ 2 k.val 2 (by decide) hk V (D 2) hv (hd 2) ρ b h l (by omega) _ (by simp))
  · exact (pack3_apply V l (D 3) b h).trans (slab_of_trip _ _ 2 k.val 3 (by decide) hk V (D 3) hv (hd 3) ρ b h l (by omega) _ (by simp))

/-- The trips before `n` leave their rows of slab 2, and everything else as it was. -/
theorem loop2_apply (X : BufTy.Contents (Elt Ideal) arg6.view.ty) : ∀ n, n ≤ k0_t4_loop.trips →
    arg14.view.read (Elt Ideal) (arg14.view.writes (Elt Ideal) f (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 n ++ L)) (ix4 g' ρ h l)
      = if g' = 2 ∧ ρ.val < 32 * n then slab (arg6.view.read (Elt Ideal) X) (arg13.view.read (Elt Ideal) X13) g' ρ h l
        else arg14.view.read (Elt Ideal) (arg14.view.writes (Elt Ideal) f L) (ix4 g' ρ h l)
  | 0, _ => by
    rw [if_neg fun h => by have := h.2; omega]
    rfl
  | n + 1, hn => by
    rw [pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 ⟨n, hn⟩, List.append_assoc, trip2_apply, loop2_apply X n (Nat.le_of_succ_le hn)]
    exact ite_trips _ _ _ _ _

/-- One trip of the loop of slab 3: four super-blocks' rows. -/
theorem trip3_apply (X : BufTy.Contents (Elt Ideal) arg7.view.ty) (k : Fin k0_t5_loop.trips) :
    arg14.view.read (Elt Ideal) (arg14.view.writes (Elt Ideal) f (tripL_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 k ++ L)) (ix4 g' ρ h l)
      = if g' = 3 ∧ 32 * k.val ≤ ρ.val ∧ ρ.val < 32 * k.val + 32 then
          slab (arg7.view.read (Elt Ideal) X) (arg13.view.read (Elt Ideal) X13) g' ρ h l
        else arg14.view.read (Elt Ideal) (arg14.view.writes (Elt Ideal) f L) (ix4 g' ρ h l) := by
  have hk : k.val < 14 := Nat.lt_of_lt_of_le k.isLt k0_t5_abs.2.1
  let V : Vec Ideal S4x16x128 .i8 :=
    arg7.view.readAt (Elt Ideal) (Rect.unit (s := S56x16x128) (k0_off13 k) S4x16x128.size (Gen.k0_off13_inb k)).toLoadRect X
  let D (r : Fin 4) : Vec Ideal S1x8x128 .f32 := arg13.view.readAt (Elt Ideal)
    (⟨k0_off14 k (BitVec.ofNat 32 r.val), S1x8x128.size, ![1, 0, 1], Gen.k0_off14_inb k r⟩ : LoadRect S4x56x128) X13
  have hv (a : Fin 4) (n : Fin 56) (t : Fin 16) (l : Fin 128) (hn : n.val = 4 * k.val + a.val) :
      V (ix3 a t l) = arg7.view.read (Elt Ideal) X (ix3 n t l) :=
    readAt_unit _ _ _ (k0_off13_eq k) _ _ (by
      intro a
      fin_cases a
      · exact hn
      · exact (Nat.zero_add _).symm
      · exact (Nat.zero_add _).symm)
  have hd (r : Fin 4) (b : Fin 8) (l : Fin 128) : D r (ix3 0 b l) = arg13.view.read (Elt Ideal) X13 (ix3 3 ⟨4 * k.val + r.val, by omega⟩ l) :=
    readAt_row arg13.view (Gen.k0_off14_inb k r) X13 3 ⟨4 * k.val + r.val, by omega⟩ (k0_off14_eq k r) b l
  unfold tripL_k0_t5 trip_k0_t5
  dsimp only
  rw [List.cons_append, List.cons_append, List.cons_append, List.cons_append, List.nil_append]
  refine read_trip arg14.view f L 3 k.val _ _ _ _ _ _ _ _ (fun y => slab (arg7.view.read (Elt Ideal) X) (arg13.view.read (Elt Ideal) X13) (y 0) (y 1) (y 2) (y 3))
    (k0_off15_eq k 0) (k0_off15_eq k 1) (k0_off15_eq k 2) (k0_off15_eq k 3) ?_ ?_ ?_ ?_ g' ρ h l <;> intro ρ b h l hρ
  · exact (pack0_apply V l (D 0) b h).trans (slab_of_trip _ _ 3 k.val 0 (by decide) hk V (D 0) hv (hd 0) ρ b h l (by omega) _ (by simp))
  · exact (pack1_apply V l (D 1) b h).trans (slab_of_trip _ _ 3 k.val 1 (by decide) hk V (D 1) hv (hd 1) ρ b h l (by omega) _ (by simp))
  · exact (pack2_apply V l (D 2) b h).trans (slab_of_trip _ _ 3 k.val 2 (by decide) hk V (D 2) hv (hd 2) ρ b h l (by omega) _ (by simp))
  · exact (pack3_apply V l (D 3) b h).trans (slab_of_trip _ _ 3 k.val 3 (by decide) hk V (D 3) hv (hd 3) ρ b h l (by omega) _ (by simp))

/-- The trips before `n` leave their rows of slab 3, and everything else as it was. -/
theorem loop3_apply (X : BufTy.Contents (Elt Ideal) arg7.view.ty) : ∀ n, n ≤ k0_t5_loop.trips →
    arg14.view.read (Elt Ideal) (arg14.view.writes (Elt Ideal) f (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 n ++ L)) (ix4 g' ρ h l)
      = if g' = 3 ∧ ρ.val < 32 * n then slab (arg7.view.read (Elt Ideal) X) (arg13.view.read (Elt Ideal) X13) g' ρ h l
        else arg14.view.read (Elt Ideal) (arg14.view.writes (Elt Ideal) f L) (ix4 g' ρ h l)
  | 0, _ => by
    rw [if_neg fun h => by have := h.2; omega]
    rfl
  | n + 1, hn => by
    rw [pb_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X X13 ⟨n, hn⟩, List.append_assoc, trip3_apply, loop3_apply X n (Nat.le_of_succ_le hn)]
    exact ite_trips _ _ _ _ _

end Cert.KernelIdeal.Body
-- ==== Proof.LaneOrder.lean ====
/- The order in which the kernel keeps the activation's columns. -/
module

public import proofs.«01_k».proof.Proof.Gen.KernelIdeal.Skeleton
public import Idealize.ShloMosaic.Lib.Pointwise

@[expose] public section

set_option maxRecDepth 16384

noncomputable section

namespace Cert.KernelIdeal.Body

open Idealize.ShloMosaic Cert.KernelIdeal.Gen

/-- The column, of 128, that lane `l` takes: `l = 64 p + 2 b + k` takes column `64 k + 32 p + b`. -/
def srcLane (l : Fin 128) : Fin 128 := ⟨64 * (l.val % 2) + 32 * (l.val / 64) + l.val % 64 / 2, by omega⟩

theorem srcWord (l : Fin 128) :
    IntOp.ori (IntOp.ori (IntOp.shli ArithUnit.vector (IntOp.andi (BitVec.ofNat 32 l.val) 1#32) 6#32)
      (IntOp.shli ArithUnit.vector (IntOp.shrsi ArithUnit.vector (BitVec.ofNat 32 l.val) 6#32) 5#32))
      (IntOp.shrsi ArithUnit.vector (IntOp.andi (BitVec.ofNat 32 l.val) 63#32) 1#32) = BitVec.ofNat 32 (srcLane l).val := by
  revert l; decide

variable (v : Vec Ideal S128x128 .bf16) (r l : Fin 128)

theorem src_apply : k0_pay132 (ix2 r l) = BitVec.ofNat 32 (srcLane l).val := by
  pointwise [k0_pay132]
  exact srcWord l

theorem src_select (l : Fin 128) : (Scalar.select (IntOp.cmpi CmpIPredicate.slt (BitVec.ofNat 32 (srcLane l).val) 0#32)
    (IntOp.addi (BitVec.ofNat 32 (srcLane l).val) 128#32) (BitVec.ofNat 32 (srcLane l).val)).toNat % 128 = (srcLane l).val := by
  revert l; decide

/-- Each half of a super-block's columns, in the kernel's order. -/
theorem lanes0_apply : k0_pay133 (F := Ideal) v (ix3 0 r l) = v (ix2 r (srcLane l)) := by
  pointwise [k0_pay133, src_apply]
  exact congrArg (fun z => v (ix2 r z)) (Fin.ext (src_select l))

theorem lanes1_apply : k0_pay134 (F := Ideal) v (ix3 0 r l) = v (ix2 r (srcLane l)) := lanes0_apply v r l

end Cert.KernelIdeal.Body
-- ==== Proof.XpLoop.lean ====
/- What the loop of the first grid point leaves in the scratch of activations. -/
module

public import proofs.«01_k».proof.Proof.ScaleLoops
public import proofs.«01_k».proof.Proof.LaneOrder

@[expose] public section

set_option maxRecDepth 16384

noncomputable section

namespace Cert.KernelIdeal.Body

open Idealize.ShloMosaic Idealize.ShloMosaic.TcCoe Cert.KernelIdeal.Gen

/-- The column of the activation that lane `κ` of super-block `m` keeps. -/
def srcCol (m : Fin 56) (κ : Fin 256) : Fin 14336 :=
  ⟨256 * m.val + 128 * (κ.val / 128) + (srcLane ⟨κ.val % 128, by omega⟩).val, by
    have := (srcLane ⟨κ.val % 128, by omega⟩).isLt; omega⟩

/-- The activation in the kernel's order of columns, super-block by super-block. -/
def ordered (x : Vec Ideal S128x14336 .bf16) : Vec Ideal S56x128x256 .bf16 := fun y => x (ix2 (y 1) (srcCol (y 0) (y 2)))

/-- Two stores of half a super-block each. -/
theorem read_halves {κ : Kind} {sp : Space} (v : View sig κ sp S56x128x256 .bf16) (f : v.ty.Contents (Elt Ideal))
    (L : List (View.Piece (Elt Ideal) S56x128x256 .bf16)) (n : ℕ) {o0 o1 : Fin 3 → ℕ}
    (i0 : ∀ a, o0 a + S1x128x128.size a ≤ S56x128x256.size a) (i1 : ∀ a, o1 a + S1x128x128.size a ≤ S56x128x256.size a)
    (w0 w1 : Vec Ideal S1x128x128 .bf16) (S : Vec Ideal S56x128x256 .bf16) (e0 : o0 = ![n, 0, 0]) (e1 : o1 = ![n, 0, 128])
    (h0 : ∀ (m : Fin 56) (r : Fin 128) (κ : Fin 256) (l : Fin 128), m.val = n → κ.val = l.val → w0 (ix3 0 r l) = S (ix3 m r κ))
    (h1 : ∀ (m : Fin 56) (r : Fin 128) (κ : Fin 256) (l : Fin 128), m.val = n → κ.val = 128 + l.val → w1 (ix3 0 r l) = S (ix3 m r κ))
    (m : Fin 56) (r : Fin 128) (κ : Fin 256) :
    v.read (Elt Ideal) (v.writes (Elt Ideal) f (⟨Rect.unit o1 S1x128x128.size i1, w1⟩ :: ⟨Rect.unit o0 S1x128x128.size i0, w0⟩ :: L)) (ix3 m r κ)
      = if m.val = n then S (ix3 m r κ) else v.read (Elt Ideal) (v.writes (Elt Ideal) f L) (ix3 m r κ) := by
  by_cases hm : m.val = n
  · rw [if_pos hm]
    by_cases hκ : κ.val < 128
    · rw [View.read_writes_cons_unit_of_not_mem v f i1 w1 _ (ix3 m r κ) e1 (2 : Fin 3) (by
          show κ.val < 128 ∨ 128 + 128 ≤ κ.val
          omega), ← h0 m r κ ⟨κ.val, hκ⟩ hm rfl]
      exact View.read_writes_cons_unit_of_mem v f i0 w0 _ (ix3 m r κ) (ix3 0 r ⟨κ.val, hκ⟩) e0 (by
        intro a
        fin_cases a
        · exact hm
        · exact (Nat.zero_add _).symm
        · exact (Nat.zero_add _).symm)
    · rw [← h1 m r κ ⟨κ.val - 128, by omega⟩ hm (by show κ.val = 128 + (κ.val - 128); omega)]
      exact View.read_writes_cons_unit_of_mem v f i1 w1 _ (ix3 m r κ) (ix3 0 r ⟨κ.val - 128, by omega⟩) e1 (by
        intro a
        fin_cases a
        · exact hm
        · exact (Nat.zero_add _).symm
        · show κ.val = 128 + (κ.val - 128); omega)
  · have hm' : m.val < n ∨ n + 1 ≤ m.val := by omega
    rw [if_neg hm, View.read_writes_cons_unit_of_not_mem v f i1 w1 _ (ix3 m r κ) e1 (0 : Fin 3) hm',
      View.read_writes_cons_unit_of_not_mem v f i0 w0 _ (ix3 m r κ) e0 (0 : Fin 3) hm']

variable (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x2x128 .bf16) (harg14 : arg14.IsWhole) (arg15 : Memref sig .tc .vmem S128x512 .f32) (harg15 : arg15.IsWhole)
variable (h : k0_cond1 i = 1#1) (X : BufTy.Contents (Elt Ideal) arg1.view.ty) (f : BufTy.Contents (Elt Ideal) arg12.view.ty)
  (m : Fin 56) (r : Fin 128) (κ : Fin 256)

/-- One trip: the columns of one super-block. -/
theorem tripX_apply (L : List (View.Piece (Elt Ideal) S56x128x256 .bf16)) (k : Fin k0_t1_loop.trips) :
    arg12.view.read (Elt Ideal) (arg12.view.writes (Elt Ideal) f (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h X k ++ L)) (ix3 m r κ)
      = if m.val = k.val then ordered (arg1.view.read (Elt Ideal) X) (ix3 m r κ)
        else arg12.view.read (Elt Ideal) (arg12.view.writes (Elt Ideal) f L) (ix3 m r κ) := by
  have hk : k.val < 56 := Nat.lt_of_lt_of_le k.isLt k0_t1_abs.2.1
  let V (q : Fin 2) : Vec Ideal S128x128 .bf16 :=
    arg1.view.readAt (Elt Ideal) (Rect.unit (s := S128x14336) (k0_off1 k (BitVec.ofNat 32 (128 * q.val))) S128x128.size (Gen.k0_off1_inb i k h q)).toLoadRect X
  have hv (q : Fin 2) (r : Fin 128) (l : Fin 128) : V q (ix2 r l) = arg1.view.read (Elt Ideal) X (ix2 r ⟨256 * k.val + 128 * q.val + l.val, by omega⟩) :=
    readAt_unit _ _ _ (k0_off1_eq k q) _ _ (by
      intro a
      fin_cases a
      · exact (Nat.zero_add _).symm
      · rfl)
  unfold tripL_k0_t1 trip_k0_t1
  dsimp only
  rw [List.cons_append, List.cons_append, List.nil_append]
  refine read_halves arg12.view f L k.val _ _ _ _ (ordered (arg1.view.read (Elt Ideal) X)) (k0_off2_eq k) (k0_off3_eq k) ?_ ?_ m r κ
    <;> intro m r κ l hm hκ
  · refine (lanes0_apply (V 0) r l).trans ((hv 0 r (srcLane l)).trans ?_)
    refine congrArg (fun z => arg1.view.read (Elt Ideal) X (ix2 r z)) (Fin.ext ?_)
    have hl : (⟨κ.val % 128, by omega⟩ : Fin 128) = l := Fin.ext (by show κ.val % 128 = l.val; omega)
    show 256 * k.val + 128 * 0 + (srcLane l).val = 256 * m.val + 128 * (κ.val / 128) + (srcLane ⟨κ.val % 128, by omega⟩).val
    rw [hl]; omega
  · refine (lanes1_apply (V 1) r l).trans ((hv 1 r (srcLane l)).trans ?_)
    refine congrArg (fun z => arg1.view.read (Elt Ideal) X (ix2 r z)) (Fin.ext ?_)
    have hl : (⟨κ.val % 128, by omega⟩ : Fin 128) = l := Fin.ext (by show κ.val % 128 = l.val; omega)
    show 256 * k.val + 128 * 1 + (srcLane l).val = 256 * m.val + 128 * (κ.val / 128) + (srcLane ⟨κ.val % 128, by omega⟩).val
    rw [hl]; omega

/-- The trips before `n` leave the super-blocks before `n`. -/
theorem loopX_apply : ∀ n, n ≤ k0_t1_loop.trips →
    arg12.view.read (Elt Ideal) (arg12.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h X n)) (ix3 m r κ)
      = if m.val < n then ordered (arg1.view.read (Elt Ideal) X) (ix3 m r κ) else arg12.view.read (Elt Ideal) f (ix3 m r κ)
  | 0, _ => by rw [if_neg (Nat.not_lt_zero _)]; rfl
  | n + 1, hn => by
      rw [pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h X ⟨n, hn⟩, tripX_apply, loopX_apply n (Nat.le_of_succ_le hn)]
      show (if m.val = n then _ else _) = _
      by_cases h1 : m.val = n
      · rw [if_pos h1, if_pos (by omega)]
      · by_cases h2 : m.val < n
        · rw [if_neg h1, if_pos h2, if_pos (by omega)]
        · rw [if_neg h1, if_neg h2, if_neg (by omega)]

/-- After the loop the scratch holds the whole activation in the kernel's order. -/
theorem loopX : arg12.view.read (Elt Ideal) (arg12.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 h X k0_t1_loop.trips))
    = ordered (arg1.view.read (Elt Ideal) X) := by
  refine funext fun y => ?_
  obtain ⟨m, r, κ, rfl⟩ : ∃ m r κ, y = ix3 m r κ := ⟨_, _, _, (ix3_eta y).symm⟩
  rw [loopX_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 h X f m r κ _ (Nat.le_refl _)]
  exact if_pos (lt_of_lt_of_eq m.isLt (by decide))

end Cert.KernelIdeal.Body
-- ==== Proof.DequantTile.lean ====
/- One 64-row part of a dequantised 256 x 128 weight tile, element by element. -/
module

public import proofs.«01_k».proof.Proof.Gen.KernelIdeal.Skeleton
public import Idealize.ShloMosaic.Lib.Pointwise
public import proofs.«01_k».proof.Proof.Bytes

@[expose] public section

set_option maxRecDepth 16384

noncomputable section

namespace Cert.KernelIdeal.Body

open Idealize.ShloMosaic Cert.KernelIdeal.Gen

/-- The high bits of 32 rows as the kernel holds them: byte `2b + k` has the high bits of planes `k`-th and next. -/
def topTile (qh : Vec Ideal S1x1x32x128 .i8) : IVec S64x128 8 :=
  k0_pay32 (k0_pay29 (F := Ideal) qh) (k0_pay30 (F := Ideal) qh) (k0_pay31 (F := Ideal) qh) 4#32

/-- The signed codes of the first plane pair. -/
def codeLo (lo qh : Vec Ideal S1x1x32x128 .i8) : IVec S64x128 8 :=
  k0_pay33 (k0_pay26 (F := Ideal) lo) (k0_pay29 (F := Ideal) qh) (k0_pay30 (F := Ideal) qh) (k0_pay31 (F := Ideal) qh) 4#32

/-- The signed codes of the second plane pair. -/
def codeHi (hi qh : Vec Ideal S1x1x32x128 .i8) : IVec S64x128 8 :=
  k0_pay36 (k0_pay27 (F := Ideal) hi) (topTile qh)

variable (lo qh hi : Vec Ideal S1x1x32x128 .i8) (ρ : Fin 64) (l : Fin 128)

/-- The bytes of high bits, each with its top bit of every pair turned over, as the kernel widens them. -/
theorem xorTile_apply (b : Fin 32) : k0_pay28 (F := Ideal) qh (ix2 b l) = (qh (ix4 0 0 b l) ^^^ 170#8).signExtend 32 := by
  pointwise [k0_pay28]
  rw [xor_words_apply _ _ _ b l (by omega)]
  pointwise

/-- The byte of `topTile` at row `ρ`: the high bits of planes `2 (ρ % 2)` and `2 (ρ % 2) + 1`, less two. -/
theorem topTile_apply : topTile qh (ix2 ρ l) = BitVec.ofNat 8
    ((crumb (qh (ix4 0 0 ⟨ρ.val / 2, by omega⟩ l)) (2 * (ρ.val % 2)) + 14) % 16
      + 16 * ((crumb (qh (ix4 0 0 ⟨ρ.val / 2, by omega⟩ l)) (2 * (ρ.val % 2) + 1) + 14) % 16)) := by
  pointwise [topTile, k0_pay32, k0_pay29, k0_pay30, k0_pay31, xorTile_apply]
  rcases Nat.mod_two_eq_zero_or_one ρ.val with h | h <;> simp only [h]
  · exact top_even _
  · exact top_odd _

theorem nib_topTile : nib (topTile qh (ix2 ρ l)) 0 = (crumb (qh (ix4 0 0 ⟨ρ.val / 2, by omega⟩ l)) (2 * (ρ.val % 2)) + 14) % 16
    ∧ nib (topTile qh (ix2 ρ l)) 1 = (crumb (qh (ix4 0 0 ⟨ρ.val / 2, by omega⟩ l)) (2 * (ρ.val % 2) + 1) + 14) % 16 := by
  rw [topTile_apply]
  exact nib_join ⟨_, Nat.mod_lt _ (by decide)⟩ ⟨_, Nat.mod_lt _ (by decide)⟩

theorem nib_lt (b : BitVec 8) (k : ℕ) : nib b k < 16 := Nat.mod_lt _ (by decide)
theorem crumb_lt (b : BitVec 8) (k : ℕ) : crumb b k < 4 := Nat.mod_lt _ (by decide)

/-- A four-bit code and the byte that holds its high bits joined, as the kernel joins them. -/
theorem joined (b t : BitVec 8) (k c : ℕ) (w : BitVec 8) (hb : k = 0 ∨ k = 1) (ht : nib t 0 = (crumb w c + 14) % 16) :
    (BitVec.setWidth 8 (IntOp.ori
        (IntOp.andi (BitVec.signExtend 32 (BitVec.setWidth 8
          (if _ : k < 1 then IntOp.shrsi ArithUnit.vector (IntOp.shli ArithUnit.vector (BitVec.setWidth 32 b) 28#32) 28#32
            else IntOp.shrsi ArithUnit.vector (IntOp.shli ArithUnit.vector (BitVec.setWidth 32 b) 24#32) 28#32))) 15#32)
        (IntOp.shrsi ArithUnit.vector (IntOp.shli ArithUnit.vector (BitVec.signExtend 32 t) 28#32) 24#32))).toInt
      = (nib b k : ℤ) + 16 * crumb w c - 32 := by
  rw [high_part t, ht, high_crumb ⟨crumb w c, crumb_lt w c⟩]
  rcases hb with rfl | rfl
  · exact (congrArg (fun z => (BitVec.setWidth 8 (IntOp.ori z _)).toInt) (low_even b)).trans
      (join_code ⟨nib b 0, nib_lt b 0⟩ ⟨crumb w c, crumb_lt w c⟩)
  · exact (congrArg (fun z => (BitVec.setWidth 8 (IntOp.ori z _)).toInt) (low_odd b)).trans
      (join_code ⟨nib b 1, nib_lt b 1⟩ ⟨crumb w c, crumb_lt w c⟩)

/-- The code at row `ρ` of the first plane pair, as an integer. -/
theorem codeLo_apply : (codeLo lo qh (ix2 ρ l)).toInt
    = (nib (lo (ix4 0 0 ⟨ρ.val / 2, by omega⟩ l)) (ρ.val % 2) : ℤ)
      + 16 * crumb (qh (ix4 0 0 ⟨ρ.val / 2, by omega⟩ l)) (2 * (ρ.val % 2)) - 32 := by
  have h := joined (lo (ix4 0 0 ⟨ρ.val / 2, by omega⟩ l)) (topTile qh (ix2 ρ l)) (ρ.val % 2) (2 * (ρ.val % 2))
    (qh (ix4 0 0 ⟨ρ.val / 2, by omega⟩ l)) (Nat.mod_two_eq_zero_or_one _) (nib_topTile qh ρ l).1
  rw [← h]
  unfold topTile
  pointwise [codeLo, k0_pay33, k0_pay26]

/-- The code at row `ρ` of the second plane pair, as an integer. -/
theorem codeHi_apply : (codeHi hi qh (ix2 ρ l)).toInt
    = (nib (hi (ix4 0 0 ⟨ρ.val / 2, by omega⟩ l)) (ρ.val % 2) : ℤ)
      + 16 * crumb (qh (ix4 0 0 ⟨ρ.val / 2, by omega⟩ l)) (2 * (ρ.val % 2) + 1) - 32 := by
  have h := joined (hi (ix4 0 0 ⟨ρ.val / 2, by omega⟩ l))
    (bitcast S64x128 8 (shrui (bitcast S16x128 32 (topTile qh) bitcasts_S64x128_w8_S16x128_w32) (broadcast S16x128 4#32))
      bitcasts_S16x128_w32_S64x128_w8 (ix2 ρ l)) (ρ.val % 2) (2 * (ρ.val % 2) + 1)
    (qh (ix4 0 0 ⟨ρ.val / 2, by omega⟩ l)) (Nat.mod_two_eq_zero_or_one _) (by
      rw [← (nib_topTile qh ρ l).2]
      exact nib_zero_eq_of_bits fun q hq => shift_words_getLsbD (topTile qh) _ _ ρ l (by omega) q hq)
  rw [← h]
  pointwise [codeHi, k0_pay36, k0_pay27]

variable (s0 s1 : Vec Ideal S1x1x2x128 .bf16)

/-- The scale of row `ρ` of a part: of the sixteen-row blocks the first two take `s0`, the last two `s1`; odd rows take
    the odd half of the pair. -/
def rowScale (s0 s1 : Vec Ideal S1x1x2x128 .bf16) (ρ : Fin 64) (l : Fin 128) : EReal :=
  if ρ.val < 32 then s0 (ix4 0 0 ⟨ρ.val % 2, Nat.mod_lt _ (by decide)⟩ l) else s1 (ix4 0 0 ⟨ρ.val % 2, Nat.mod_lt _ (by decide)⟩ l)

theorem scaled (z : EReal) :
    (z * if h : ρ.val < 16 then if ρ.val % 2 % 2 = 0 then s0 (ix4 0 0 0 l) else s0 (ix4 0 0 1 l)
      else
        if h : ρ.val - 16 < 16 then if (ρ.val - 16) % 2 % 2 = 0 then s0 (ix4 0 0 0 l) else s0 (ix4 0 0 1 l)
        else
          if h : ρ.val - 16 - 16 < 16 then if (ρ.val - 16 - 16) % 2 % 2 = 0 then s1 (ix4 0 0 0 l) else s1 (ix4 0 0 1 l)
          else if (ρ.val - 16 - 16 - 16) % 2 % 2 = 0 then s1 (ix4 0 0 0 l) else s1 (ix4 0 0 1 l)) = z * rowScale s0 s1 ρ l := by
  have hpar (f : Vec Ideal S1x1x2x128 .bf16) (m : ℕ) (hm : m % 2 = ρ.val % 2) :
      (if m % 2 % 2 = 0 then f (ix4 0 0 0 l) else f (ix4 0 0 1 l)) = f (ix4 0 0 ⟨ρ.val % 2, Nat.mod_lt _ (by decide)⟩ l) := by
    rw [hm]
    rcases Nat.mod_two_eq_zero_or_one ρ.val with h | h <;> simp [h]
  congr 1
  by_cases h1 : ρ.val < 16
  · rw [dif_pos h1, hpar s0 _ rfl, rowScale, if_pos (by omega)]
  · by_cases h2 : ρ.val - 16 < 16
    · rw [dif_neg h1, dif_pos h2, hpar s0 _ (by omega), rowScale, if_pos (by omega)]
    · by_cases h3 : ρ.val - 16 - 16 < 16
      · rw [dif_neg h1, dif_neg h2, dif_pos h3, hpar s1 _ (by omega), rowScale, if_neg (by omega)]
      · rw [dif_neg h1, dif_neg h2, dif_neg h3, hpar s1 _ (by omega), rowScale, if_neg (by omega)]

/-- A part of a tile: its codes times the scales of its rows. -/
theorem partLo_apply (c : IVec S64x128 8) : k0_pay35 (F := Ideal) c (k0_pay34 (F := Ideal) s0) s1 (ix2 ρ l)
    = (((c (ix2 ρ l)).toInt : ℝ) : EReal) * rowScale s0 s1 ρ l := by
  pointwise [k0_pay35, k0_pay34]
  exact scaled ρ l s0 s1 _

theorem partHi_apply (c : IVec S64x128 8) : k0_pay37 (F := Ideal) c s0 s1 (ix2 ρ l)
    = (((c (ix2 ρ l)).toInt : ℝ) : EReal) * rowScale s0 s1 ρ l := by
  pointwise [k0_pay37]
  exact scaled ρ l s0 s1 _

/-- A 256 x 128 tile of weights from its bytes and scale rows: the four parts one above another. -/
def tile (lo0 hi0 qh0 lo1 hi1 qh1 : Vec Ideal S1x1x32x128 .i8) (s : Fin 2 → Fin 2 → Fin 2 → Vec Ideal S1x1x2x128 .bf16) :
    FVec Ideal S256x128 .bf16 :=
  concatenate S256x128 0 [⟨S64x128, k0_pay35 (F := Ideal) (codeLo lo0 qh0) (k0_pay34 (F := Ideal) (s 0 0 0)) (s 0 0 1)⟩,
    ⟨S64x128, k0_pay37 (F := Ideal) (codeHi hi0 qh0) (s 0 1 0) (s 0 1 1)⟩,
    ⟨S64x128, k0_pay35 (F := Ideal) (codeLo lo1 qh1) (k0_pay34 (F := Ideal) (s 1 0 0)) (s 1 0 1)⟩,
    ⟨S64x128, k0_pay37 (F := Ideal) (codeHi hi1 qh1) (s 1 1 0) (s 1 1 1)⟩]
    concatenates_S64x128_S64x128_S64x128_S64x128_S256x128_d0

/-- A tile of weights at row `κ = 128 h + 64 p + 2 b + k`: the code of plane `p + 2 k`, times its scale. -/
theorem tile_apply (lo0 hi0 qh0 lo1 hi1 qh1 : Vec Ideal S1x1x32x128 .i8) (s : Fin 2 → Fin 2 → Fin 2 → Vec Ideal S1x1x2x128 .bf16)
    (κ : Fin 256) (l : Fin 128) (b : Fin 32) (k : ℕ) (p h : Fin 2) (hk : k < 2) (hκ : κ.val = 128 * h.val + 64 * p.val + 2 * b.val + k) :
    tile lo0 hi0 qh0 lo1 hi1 qh1 s (ix2 κ l)
      = ((((nib ((if h = 0 then if p = 0 then lo0 else hi0 else if p = 0 then lo1 else hi1) (ix4 0 0 b l)) k : ℤ)
          + 16 * crumb ((if h = 0 then qh0 else qh1) (ix4 0 0 b l)) (2 * k + p.val) - 32 : ℤ) : ℝ) : EReal)
        * s h p ⟨b.val / 16, by omega⟩ (ix4 0 0 ⟨k, hk⟩ l) := by
  have hpart (s0 s1 : Vec Ideal S1x1x2x128 .bf16) (ρ : Fin 64) (hρ : ρ.val = 2 * b.val + k) (f : Fin 2 → Vec Ideal S1x1x2x128 .bf16)
      (h0 : s0 = f 0) (h1 : s1 = f 1) :
      rowScale s0 s1 ρ l = f ⟨b.val / 16, by omega⟩ (ix4 0 0 ⟨k, hk⟩ l) := by
    subst h0 h1
    unfold rowScale
    have : (⟨ρ.val % 2, Nat.mod_lt _ (by decide)⟩ : Fin 2) = ⟨k, hk⟩ := Fin.ext (by show ρ.val % 2 = k; omega)
    rw [this]
    by_cases hb : b.val < 16
    · rw [if_pos (by omega)]
      have : (⟨b.val / 16, by omega⟩ : Fin 2) = 0 := Fin.ext (by show b.val / 16 = 0; omega)
      rw [this]
    · rw [if_neg (by omega)]
      have : (⟨b.val / 16, by omega⟩ : Fin 2) = 1 := Fin.ext (by show b.val / 16 = 1; omega)
      rw [this]
  have hb (ρ : Fin 64) (hρ : ρ.val = 2 * b.val + k) : (⟨ρ.val / 2, by omega⟩ : Fin 32) = b := Fin.ext (by show ρ.val / 2 = b.val; omega)
  have hk' (ρ : Fin 64) (hρ : ρ.val = 2 * b.val + k) : ρ.val % 2 = k := by omega
  have hp := p.isLt
  have hh := h.isLt
  pointwise [tile]
  have hp2 : p = 0 ∨ p = 1 := by omega
  have hh2 : h = 0 ∨ h = 1 := by omega
  rcases hh2 with rfl | rfl <;> rcases hp2 with rfl | rfl <;> simp only [Fin.val_zero, Fin.val_one] at hκ
  · rw [dif_pos (by omega), partLo_apply, codeLo_apply, hpart _ _ _ (by show κ.val = _; omega) (s 0 0) rfl rfl,
      hb _ (by show κ.val = _; omega), hk' _ (by show κ.val = _; omega)]
    rfl
  · rw [dif_neg (by omega), dif_pos (by omega), partHi_apply, codeHi_apply, hpart _ _ _ (by show κ.val - 64 = _; omega) (s 0 1) rfl rfl,
      hb _ (by show κ.val - 64 = _; omega), hk' _ (by show κ.val - 64 = _; omega)]
    rfl
  · rw [dif_neg (by omega), dif_neg (by omega), dif_pos (by omega), partLo_apply, codeLo_apply,
      hpart _ _ _ (by show κ.val - 64 - 64 = _; omega) (s 1 0) rfl rfl,
      hb _ (by show κ.val - 64 - 64 = _; omega), hk' _ (by show κ.val - 64 - 64 = _; omega)]
    rfl
  · rw [dif_neg (by omega), dif_neg (by omega), dif_neg (by omega), partHi_apply, codeHi_apply,
      hpart _ _ _ (by show κ.val - 64 - 64 - 64 = _; omega) (s 1 1) rfl rfl,
      hb _ (by show κ.val - 64 - 64 - 64 = _; omega), hk' _ (by show κ.val - 64 - 64 - 64 = _; omega)]
    rfl

end Cert.KernelIdeal.Body
-- ==== Proof.AccLoop.lean ====
/- What the loop over the super-blocks leaves in the accumulator. -/
module

public import proofs.«01_k».proof.Proof.ScaleLoops
public import proofs.«01_k».proof.Proof.DequantTile
public import Idealize.ShloMosaic.Lib.MatmulPlain

@[expose] public section

set_option maxRecDepth 16384

noncomputable section

namespace Cert.KernelIdeal.Body

open Idealize.ShloMosaic Idealize.ShloMosaic.TcCoe Cert.KernelIdeal.Gen

/-- The weight at row `κ = 128 h + 64 p + 2 b + k` of super-block `n`, column `j`: the six-bit code of plane `p + 2 k`, less
    32, times its scale. -/
def weight (ql : Vec Ideal S56x2x64x512 .i8) (qh : Vec Ideal S56x2x32x512 .i8) (s : Vec Ideal S4x448x2x128 .bf16)
    (n : Fin 56) (κ : Fin 256) (j : Fin 512) : EReal :=
  ((((nib (ql (ix4 n ⟨κ.val / 128, by omega⟩ ⟨32 * (κ.val % 128 / 64) + κ.val % 64 / 2, by omega⟩ j)) (κ.val % 2) : ℤ)
      + 16 * crumb (qh (ix4 n ⟨κ.val / 128, by omega⟩ ⟨κ.val % 64 / 2, by omega⟩ j)) (2 * (κ.val % 2) + κ.val % 128 / 64) - 32 : ℤ) : ℝ) : EReal)
    * s (ix4 ⟨j.val / 128, by omega⟩ ⟨8 * n.val + 4 * (κ.val / 128) + 2 * (κ.val % 128 / 64) + κ.val % 64 / 32, by omega⟩
        ⟨κ.val % 2, by omega⟩ ⟨j.val % 128, by omega⟩)

/-- A tile whose bytes and scale rows are those of super-block `n`, columns from `128 g`, holds its weights. -/
theorem tile_weight (ql : Vec Ideal S56x2x64x512 .i8) (qh : Vec Ideal S56x2x32x512 .i8) (sl : Vec Ideal S4x448x2x128 .bf16)
    (n : Fin 56) (g : Fin 4) (lo0 hi0 qh0 lo1 hi1 qh1 : Vec Ideal S1x1x32x128 .i8) (s : Fin 2 → Fin 2 → Fin 2 → Vec Ideal S1x1x2x128 .bf16)
    (hlo0 : ∀ b l, lo0 (ix4 0 0 b l) = ql (ix4 n 0 ⟨b.val, by omega⟩ ⟨128 * g.val + l.val, by omega⟩))
    (hhi0 : ∀ b l, hi0 (ix4 0 0 b l) = ql (ix4 n 0 ⟨32 + b.val, by omega⟩ ⟨128 * g.val + l.val, by omega⟩))
    (hqh0 : ∀ b l, qh0 (ix4 0 0 b l) = qh (ix4 n 0 b ⟨128 * g.val + l.val, by omega⟩))
    (hlo1 : ∀ b l, lo1 (ix4 0 0 b l) = ql (ix4 n 1 ⟨b.val, by omega⟩ ⟨128 * g.val + l.val, by omega⟩))
    (hhi1 : ∀ b l, hi1 (ix4 0 0 b l) = ql (ix4 n 1 ⟨32 + b.val, by omega⟩ ⟨128 * g.val + l.val, by omega⟩))
    (hqh1 : ∀ b l, qh1 (ix4 0 0 b l) = qh (ix4 n 1 b ⟨128 * g.val + l.val, by omega⟩))
    (hs : ∀ (h p q : Fin 2) k l, s h p q (ix4 0 0 k l) = sl (ix4 g ⟨8 * n.val + 4 * h.val + 2 * p.val + q.val, by omega⟩ k l))
    (κ : Fin 256) (l : Fin 128) : tile lo0 hi0 qh0 lo1 hi1 qh1 s (ix2 κ l) = weight ql qh sl n κ ⟨128 * g.val + l.val, by omega⟩ := by
  obtain ⟨h, hh⟩ : ∃ h : Fin 2, h.val = κ.val / 128 := ⟨⟨κ.val / 128, by omega⟩, rfl⟩
  obtain ⟨p, hp⟩ : ∃ p : Fin 2, p.val = κ.val % 128 / 64 := ⟨⟨κ.val % 128 / 64, by omega⟩, rfl⟩
  obtain ⟨b, hb⟩ : ∃ b : Fin 32, b.val = κ.val % 64 / 2 := ⟨⟨κ.val % 64 / 2, by omega⟩, rfl⟩
  rw [tile_apply lo0 hi0 qh0 lo1 hi1 qh1 s κ l b (κ.val % 2) p h (Nat.mod_lt _ (by decide)) (by omega), hs]
  unfold weight
  have e1 : (if h = 0 then if p = 0 then lo0 else hi0 else if p = 0 then lo1 else hi1) (ix4 0 0 b l)
      = ql (ix4 n h ⟨32 * p.val + b.val, by omega⟩ ⟨128 * g.val + l.val, by omega⟩) := by
    match h, p with
    | 0, 0 => exact (hlo0 b l).trans (congrArg (fun z => ql (ix4 n 0 z _)) (Fin.ext (by show b.val = 32 * 0 + b.val; omega)))
    | 0, 1 => exact hhi0 b l
    | 1, 0 => exact (hlo1 b l).trans (congrArg (fun z => ql (ix4 n 1 z _)) (Fin.ext (by show b.val = 32 * 0 + b.val; omega)))
    | 1, 1 => exact hhi1 b l
  have e2 : (if h = 0 then qh0 else qh1) (ix4 0 0 b l) = qh (ix4 n h b ⟨128 * g.val + l.val, by omega⟩) := by
    match h with
    | 0 => exact hqh0 b l
    | 1 => exact hqh1 b l
  have ix4c {n0 n1 n2 n3 : ℕ} {a a' : Fin n0} {b b' : Fin n1} {c c' : Fin n2} {d d' : Fin n3} (h0 : a.val = a'.val) (h1 : b.val = b'.val)
      (h2 : c.val = c'.val) (h3 : d.val = d'.val) : ix4 a b c d = ix4 a' b' c' d' := by
    rw [Fin.ext h0, Fin.ext h1, Fin.ext h2, Fin.ext h3]
  rw [e1, e2]
  refine congrArg₂ (· * ·) ?_ ?_
  · have f1 : (ix4 n h ⟨32 * p.val + b.val, by omega⟩ ⟨128 * g.val + l.val, by omega⟩ : S56x2x64x512.Idx)
        = ix4 n ⟨κ.val / 128, by omega⟩ ⟨32 * (κ.val % 128 / 64) + κ.val % 64 / 2, by omega⟩ ⟨128 * g.val + l.val, by omega⟩ :=
      ix4c rfl hh (by show 32 * p.val + b.val = 32 * (κ.val % 128 / 64) + κ.val % 64 / 2; omega) rfl
    have f2 : (ix4 n h b ⟨128 * g.val + l.val, by omega⟩ : S56x2x32x512.Idx)
        = ix4 n ⟨κ.val / 128, by omega⟩ ⟨κ.val % 64 / 2, by omega⟩ ⟨128 * g.val + l.val, by omega⟩ := ix4c rfl hh hb rfl
    rw [f1, f2, hp]
  · exact congrArg sl (ix4c (by show g.val = (128 * g.val + l.val) / 128; omega)
      (by show 8 * n.val + 4 * h.val + 2 * p.val + b.val / 16 = 8 * n.val + 4 * (κ.val / 128) + 2 * (κ.val % 128 / 64) + κ.val % 64 / 32; omega)
      rfl (by show l.val = (128 * g.val + l.val) % 128; omega))

/-- The same of a tile whose bytes and scale rows are loads of the three buffers. -/
theorem tile_weight_loads (v2 : View sig .tc .vmem S56x2x64x512 .i8) (v3 : View sig .tc .vmem S56x2x32x512 .i8) (v14 : View sig .tc .vmem S4x448x2x128 .bf16)
    (X2 : v2.ty.Contents (Elt Ideal)) (X3 : v3.ty.Contents (Elt Ideal)) (X14 : v14.ty.Contents (Elt Ideal)) (n : Fin 56) (g : Fin 4)
    {o0 o1 o2 o3 o4 o5 : Fin 4 → ℕ} {os : Fin 2 → Fin 2 → Fin 2 → Fin 4 → ℕ}
    (i0 : ∀ a, o0 a + S1x1x32x128.size a ≤ S56x2x64x512.size a) (i1 : ∀ a, o1 a + S1x1x32x128.size a ≤ S56x2x64x512.size a)
    (i2 : ∀ a, o2 a + S1x1x32x128.size a ≤ S56x2x32x512.size a) (i3 : ∀ a, o3 a + S1x1x32x128.size a ≤ S56x2x64x512.size a)
    (i4 : ∀ a, o4 a + S1x1x32x128.size a ≤ S56x2x64x512.size a) (i5 : ∀ a, o5 a + S1x1x32x128.size a ≤ S56x2x32x512.size a)
    (is : ∀ h p q a, os h p q a + S1x1x2x128.size a ≤ S4x448x2x128.size a)
    (e0 : o0 = ![n.val, 0, 0, 128 * g.val]) (e1 : o1 = ![n.val, 0, 32, 128 * g.val]) (e2 : o2 = ![n.val, 0, 0, 128 * g.val])
    (e3 : o3 = ![n.val, 1, 0, 128 * g.val]) (e4 : o4 = ![n.val, 1, 32, 128 * g.val]) (e5 : o5 = ![n.val, 1, 0, 128 * g.val])
    (es : ∀ h p q, os h p q = ![g.val, 8 * n.val + 4 * h.val + 2 * p.val + q.val, 0, 0]) (κ : Fin 256) (l : Fin 128) :
    tile (v2.readAt (Elt Ideal) (Rect.unit (s := S56x2x64x512) o0 S1x1x32x128.size i0).toLoadRect X2) (v2.readAt (Elt Ideal) (Rect.unit (s := S56x2x64x512) o1 S1x1x32x128.size i1).toLoadRect X2)
        (v3.readAt (Elt Ideal) (Rect.unit (s := S56x2x32x512) o2 S1x1x32x128.size i2).toLoadRect X3) (v2.readAt (Elt Ideal) (Rect.unit (s := S56x2x64x512) o3 S1x1x32x128.size i3).toLoadRect X2)
        (v2.readAt (Elt Ideal) (Rect.unit (s := S56x2x64x512) o4 S1x1x32x128.size i4).toLoadRect X2) (v3.readAt (Elt Ideal) (Rect.unit (s := S56x2x32x512) o5 S1x1x32x128.size i5).toLoadRect X3)
        (fun h p q => v14.readAt (Elt Ideal) (Rect.unit (s := S4x448x2x128) (os h p q) S1x1x2x128.size (is h p q)).toLoadRect X14) (ix2 κ l)
      = weight (v2.read (Elt Ideal) X2) (v3.read (Elt Ideal) X3) (v14.read (Elt Ideal) X14) n κ ⟨128 * g.val + l.val, by omega⟩ := by
  refine tile_weight _ _ _ n g _ _ _ _ _ _ _ (fun b l => readAt_unit _ _ _ e0 _ _ ?_) (fun b l => readAt_unit _ _ _ e1 _ _ ?_)
    (fun b l => readAt_unit _ _ _ e2 _ _ ?_) (fun b l => readAt_unit _ _ _ e3 _ _ ?_) (fun b l => readAt_unit _ _ _ e4 _ _ ?_)
    (fun b l => readAt_unit _ _ _ e5 _ _ ?_) (fun h p q k l => readAt_unit _ _ _ (es h p q) _ _ ?_) κ l
    <;> intro a <;> fin_cases a <;> first | rfl | exact (Nat.zero_add _).symm

variable (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x2x128 .bf16) (harg14 : arg14.IsWhole) (arg15 : Memref sig .tc .vmem S128x512 .f32) (harg15 : arg15.IsWhole)
variable (X2 : BufTy.Contents (Elt Ideal) arg2.view.ty) (X3 : BufTy.Contents (Elt Ideal) arg3.view.ty)
  (X12 : BufTy.Contents (Elt Ideal) arg12.view.ty) (X14 : BufTy.Contents (Elt Ideal) arg14.view.ty)

/-- Tile 0 of one trip. -/
def tile0 (k : Fin k0_t6_loop.trips) : FVec Ideal S256x128 .bf16 :=
  tile (arg2.view.readAt (Elt Ideal) (Rect.unit (s := S56x2x64x512) (k0_off16 k) S1x1x32x128.size (Gen.k0_off16_inb k)).toLoadRect X2)
    (arg2.view.readAt (Elt Ideal) (Rect.unit (s := S56x2x64x512) (k0_off17 k) S1x1x32x128.size (Gen.k0_off17_inb k)).toLoadRect X2)
    (arg3.view.readAt (Elt Ideal) (Rect.unit (s := S56x2x32x512) (k0_off18 k) S1x1x32x128.size (Gen.k0_off18_inb k)).toLoadRect X3)
    (arg2.view.readAt (Elt Ideal) (Rect.unit (s := S56x2x64x512) (k0_off20 k) S1x1x32x128.size (Gen.k0_off20_inb k)).toLoadRect X2)
    (arg2.view.readAt (Elt Ideal) (Rect.unit (s := S56x2x64x512) (k0_off21 k) S1x1x32x128.size (Gen.k0_off21_inb k)).toLoadRect X2)
    (arg3.view.readAt (Elt Ideal) (Rect.unit (s := S56x2x32x512) (k0_off22 k) S1x1x32x128.size (Gen.k0_off22_inb k)).toLoadRect X3)
    fun h p q => arg14.view.readAt (Elt Ideal) (Rect.unit (s := S4x448x2x128)
      (k0_off19 k (BitVec.ofNat 32 (4 * h.val)) (BitVec.ofNat 32 (2 * p.val)) (BitVec.ofNat 32 q.val)) S1x1x2x128.size (Gen.k0_off19_inb k h p q)).toLoadRect X14

/-- Tile 1 of one trip. -/
def tile1 (k : Fin k0_t6_loop.trips) : FVec Ideal S256x128 .bf16 :=
  tile (arg2.view.readAt (Elt Ideal) (Rect.unit (s := S56x2x64x512) (k0_off23 k) S1x1x32x128.size (Gen.k0_off23_inb k)).toLoadRect X2)
    (arg2.view.readAt (Elt Ideal) (Rect.unit (s := S56x2x64x512) (k0_off24 k) S1x1x32x128.size (Gen.k0_off24_inb k)).toLoadRect X2)
    (arg3.view.readAt (Elt Ideal) (Rect.unit (s := S56x2x32x512) (k0_off25 k) S1x1x32x128.size (Gen.k0_off25_inb k)).toLoadRect X3)
    (arg2.view.readAt (Elt Ideal) (Rect.unit (s := S56x2x64x512) (k0_off27 k) S1x1x32x128.size (Gen.k0_off27_inb k)).toLoadRect X2)
    (arg2.view.readAt (Elt Ideal) (Rect.unit (s := S56x2x64x512) (k0_off28 k) S1x1x32x128.size (Gen.k0_off28_inb k)).toLoadRect X2)
    (arg3.view.readAt (Elt Ideal) (Rect.unit (s := S56x2x32x512) (k0_off29 k) S1x1x32x128.size (Gen.k0_off29_inb k)).toLoadRect X3)
    fun h p q => arg14.view.readAt (Elt Ideal) (Rect.unit (s := S4x448x2x128)
      (k0_off26 k (BitVec.ofNat 32 (4 * h.val)) (BitVec.ofNat 32 (2 * p.val)) (BitVec.ofNat 32 q.val)) S1x1x2x128.size (Gen.k0_off26_inb k h p q)).toLoadRect X14

/-- Tile 2 of one trip. -/
def tile2 (k : Fin k0_t6_loop.trips) : FVec Ideal S256x128 .bf16 :=
  tile (arg2.view.readAt (Elt Ideal) (Rect.unit (s := S56x2x64x512) (k0_off30 k) S1x1x32x128.size (Gen.k0_off30_inb k)).toLoadRect X2)
    (arg2.view.readAt (Elt Ideal) (Rect.unit (s := S56x2x64x512) (k0_off31 k) S1x1x32x128.size (Gen.k0_off31_inb k)).toLoadRect X2)
    (arg3.view.readAt (Elt Ideal) (Rect.unit (s := S56x2x32x512) (k0_off32 k) S1x1x32x128.size (Gen.k0_off32_inb k)).toLoadRect X3)
    (arg2.view.readAt (Elt Ideal) (Rect.unit (s := S56x2x64x512) (k0_off34 k) S1x1x32x128.size (Gen.k0_off34_inb k)).toLoadRect X2)
    (arg2.view.readAt (Elt Ideal) (Rect.unit (s := S56x2x64x512) (k0_off35 k) S1x1x32x128.size (Gen.k0_off35_inb k)).toLoadRect X2)
    (arg3.view.readAt (Elt Ideal) (Rect.unit (s := S56x2x32x512) (k0_off36 k) S1x1x32x128.size (Gen.k0_off36_inb k)).toLoadRect X3)
    fun h p q => arg14.view.readAt (Elt Ideal) (Rect.unit (s := S4x448x2x128)
      (k0_off33 k (BitVec.ofNat 32 (4 * h.val)) (BitVec.ofNat 32 (2 * p.val)) (BitVec.ofNat 32 q.val)) S1x1x2x128.size (Gen.k0_off33_inb k h p q)).toLoadRect X14

/-- Tile 3 of one trip. -/
def tile3 (k : Fin k0_t6_loop.trips) : FVec Ideal S256x128 .bf16 :=
  tile (arg2.view.readAt (Elt Ideal) (Rect.unit (s := S56x2x64x512) (k0_off37 k) S1x1x32x128.size (Gen.k0_off37_inb k)).toLoadRect X2)
    (arg2.view.readAt (Elt Ideal) (Rect.unit (s := S56x2x64x512) (k0_off38 k) S1x1x32x128.size (Gen.k0_off38_inb k)).toLoadRect X2)
    (arg3.view.readAt (Elt Ideal) (Rect.unit (s := S56x2x32x512) (k0_off39 k) S1x1x32x128.size (Gen.k0_off39_inb k)).toLoadRect X3)
    (arg2.view.readAt (Elt Ideal) (Rect.unit (s := S56x2x64x512) (k0_off41 k) S1x1x32x128.size (Gen.k0_off41_inb k)).toLoadRect X2)
    (arg2.view.readAt (Elt Ideal) (Rect.unit (s := S56x2x64x512) (k0_off42 k) S1x1x32x128.size (Gen.k0_off42_inb k)).toLoadRect X2)
    (arg3.view.readAt (Elt Ideal) (Rect.unit (s := S56x2x32x512) (k0_off43 k) S1x1x32x128.size (Gen.k0_off43_inb k)).toLoadRect X3)
    fun h p q => arg14.view.readAt (Elt Ideal) (Rect.unit (s := S4x448x2x128)
      (k0_off40 k (BitVec.ofNat 32 (4 * h.val)) (BitVec.ofNat 32 (2 * p.val)) (BitVec.ofNat 32 q.val)) S1x1x2x128.size (Gen.k0_off40_inb k h p q)).toLoadRect X14

/-- A trip's weights are its four tiles, side by side. -/
theorem tiles_eq (k : Fin k0_t6_loop.trips) : trip_k0_t6.sl.r_56 (F := Ideal) arg2 arg3 arg14 X2 X3 X14 k
    = concatenate S256x512 1 [⟨S256x128, tile0 arg2 arg3 arg14 X2 X3 X14 k⟩, ⟨S256x128, tile1 arg2 arg3 arg14 X2 X3 X14 k⟩,
        ⟨S256x128, tile2 arg2 arg3 arg14 X2 X3 X14 k⟩, ⟨S256x128, tile3 arg2 arg3 arg14 X2 X3 X14 k⟩]
      concatenates_S256x128_S256x128_S256x128_S256x128_S256x512_d1 := rfl

theorem tile0_apply (k : Fin k0_t6_loop.trips) (n : Fin 56) (hn : n.val = k.val) (κ : Fin 256) (l : Fin 128) : tile0 arg2 arg3 arg14 X2 X3 X14 k (ix2 κ l)
    = weight (arg2.view.read (Elt Ideal) X2) (arg3.view.read (Elt Ideal) X3) (arg14.view.read (Elt Ideal) X14) n κ ⟨0 + l.val, by omega⟩ := by
  obtain ⟨n, h⟩ := n
  obtain rfl : n = k.val := hn
  exact tile_weight_loads _ _ _ X2 X3 X14 ⟨k.val, h⟩ 0 _ _ _ _ _ _ (fun h p q => Gen.k0_off19_inb k h p q) (k0_off16_eq k) (k0_off17_eq k) (k0_off18_eq k) (k0_off20_eq k) (k0_off21_eq k) (k0_off22_eq k)
    (k0_off19_eq k) κ l

theorem tile1_apply (k : Fin k0_t6_loop.trips) (n : Fin 56) (hn : n.val = k.val) (κ : Fin 256) (l : Fin 128) : tile1 arg2 arg3 arg14 X2 X3 X14 k (ix2 κ l)
    = weight (arg2.view.read (Elt Ideal) X2) (arg3.view.read (Elt Ideal) X3) (arg14.view.read (Elt Ideal) X14) n κ ⟨128 + l.val, by omega⟩ := by
  obtain ⟨n, h⟩ := n
  obtain rfl : n = k.val := hn
  exact tile_weight_loads _ _ _ X2 X3 X14 ⟨k.val, h⟩ 1 _ _ _ _ _ _ (fun h p q => Gen.k0_off26_inb k h p q) (k0_off23_eq k) (k0_off24_eq k) (k0_off25_eq k) (k0_off27_eq k) (k0_off28_eq k) (k0_off29_eq k)
    (k0_off26_eq k) κ l

theorem tile2_apply (k : Fin k0_t6_loop.trips) (n : Fin 56) (hn : n.val = k.val) (κ : Fin 256) (l : Fin 128) : tile2 arg2 arg3 arg14 X2 X3 X14 k (ix2 κ l)
    = weight (arg2.view.read (Elt Ideal) X2) (arg3.view.read (Elt Ideal) X3) (arg14.view.read (Elt Ideal) X14) n κ ⟨256 + l.val, by omega⟩ := by
  obtain ⟨n, h⟩ := n
  obtain rfl : n = k.val := hn
  exact tile_weight_loads _ _ _ X2 X3 X14 ⟨k.val, h⟩ 2 _ _ _ _ _ _ (fun h p q => Gen.k0_off33_inb k h p q) (k0_off30_eq k) (k0_off31_eq k) (k0_off32_eq k) (k0_off34_eq k) (k0_off35_eq k) (k0_off36_eq k)
    (k0_off33_eq k) κ l

theorem tile3_apply (k : Fin k0_t6_loop.trips) (n : Fin 56) (hn : n.val = k.val) (κ : Fin 256) (l : Fin 128) : tile3 arg2 arg3 arg14 X2 X3 X14 k (ix2 κ l)
    = weight (arg2.view.read (Elt Ideal) X2) (arg3.view.read (Elt Ideal) X3) (arg14.view.read (Elt Ideal) X14) n κ ⟨384 + l.val, by omega⟩ := by
  obtain ⟨n, h⟩ := n
  obtain rfl : n = k.val := hn
  exact tile_weight_loads _ _ _ X2 X3 X14 ⟨k.val, h⟩ 3 _ _ _ _ _ _ (fun h p q => Gen.k0_off40_inb k h p q) (k0_off37_eq k) (k0_off38_eq k) (k0_off39_eq k) (k0_off41_eq k) (k0_off42_eq k) (k0_off43_eq k)
    (k0_off40_eq k) κ l

/-- Four tiles side by side. -/
theorem four_tiles (t0 t1 t2 t3 : FVec Ideal S256x128 .bf16) (κ : Fin 256) (j : Fin 512) :
    concatenate S256x512 1 [⟨S256x128, t0⟩, ⟨S256x128, t1⟩, ⟨S256x128, t2⟩, ⟨S256x128, t3⟩]
        concatenates_S256x128_S256x128_S256x128_S256x128_S256x512_d1 (ix2 κ j)
      = if h0 : j.val < 128 then t0 (ix2 κ ⟨j.val, h0⟩) else if h1 : j.val < 256 then t1 (ix2 κ ⟨j.val - 128, by omega⟩)
        else if h2 : j.val < 384 then t2 (ix2 κ ⟨j.val - 256, by omega⟩) else t3 (ix2 κ ⟨j.val - 384, by omega⟩) := by
  have e {t : FVec Ideal S256x128 .bf16} {a b : Fin 128} (h : a.val = b.val) : t (ix2 κ a) = t (ix2 κ b) := by rw [Fin.ext h]
  pointwise []
  by_cases h0 : j.val < 128
  · rw [dif_pos h0, dif_pos h0]
  rw [dif_neg h0, dif_neg h0]
  by_cases h1 : j.val < 256
  · rw [dif_pos (by omega), dif_pos h1]
  rw [dif_neg (by omega), dif_neg h1]
  by_cases h2 : j.val < 384
  · rw [dif_pos (by omega), dif_pos h2]
    exact e (by show j.val - 128 - 128 = j.val - 256; omega)
  rw [dif_neg (by omega), dif_neg h2]
  exact e (by show j.val - 128 - 128 - 128 = j.val - 384; omega)

/-- A trip's weights, element by element. -/
theorem weights_apply (k : Fin k0_t6_loop.trips) (n : Fin 56) (hn : n.val = k.val) (κ : Fin 256) (j : Fin 512) :
    trip_k0_t6.sl.r_56 (F := Ideal) arg2 arg3 arg14 X2 X3 X14 k (ix2 κ j)
      = weight (arg2.view.read (Elt Ideal) X2) (arg3.view.read (Elt Ideal) X3) (arg14.view.read (Elt Ideal) X14) n κ j := by
  rw [tiles_eq, four_tiles]
  split_ifs with h0 h1 h2
  · rw [tile0_apply _ _ _ _ _ _ k n hn]
    exact congrArg _ (Fin.ext (by show 0 + j.val = j.val; omega))
  · rw [tile1_apply _ _ _ _ _ _ k n hn]
    exact congrArg _ (Fin.ext (by show 128 + (j.val - 128) = j.val; omega))
  · rw [tile2_apply _ _ _ _ _ _ k n hn]
    exact congrArg _ (Fin.ext (by show 256 + (j.val - 256) = j.val; omega))
  · rw [tile3_apply _ _ _ _ _ _ k n hn]
    exact congrArg _ (Fin.ext (by show 384 + (j.val - 384) = j.val; omega))

theorem step_apply (w : FVec Ideal S256x512 .bf16) (a : Vec Ideal S128x512 .f32) (x : Vec Ideal S1x128x256 .bf16) (r : Fin 128) (j : Fin 512) :
    k0_pay144 (F := Ideal) w a x (ix2 r j) = a (ix2 r j) + ∑ κ : Fin 256, x (ix3 0 r κ) * w (ix2 κ j) := by
  pointwise [k0_pay144]

/-- The products of the super-blocks before `n`. -/
def partialSum (x : Vec Ideal S56x128x256 .bf16) (w : Fin 56 → Fin 256 → Fin 512 → EReal) (n : ℕ) (r : Fin 128) (j : Fin 512) : EReal :=
  ∑ m : Fin 56, if m.val < n then ∑ κ : Fin 256, x (ix3 m r κ) * w m κ j else 0

theorem partialSum_succ (x : Vec Ideal S56x128x256 .bf16) (w : Fin 56 → Fin 256 → Fin 512 → EReal) (n : Fin 56) (r : Fin 128) (j : Fin 512) :
    partialSum x w (n.val + 1) r j = partialSum x w n.val r j + ∑ κ : Fin 256, x (ix3 n r κ) * w n κ j := by
  unfold partialSum
  rw [← Finset.sum_erase_add _ _ (Finset.mem_univ n), ← Finset.sum_erase_add (a := n) _ (fun m : Fin 56 => if m.val < n.val then _ else 0) (Finset.mem_univ n),
    if_pos (Nat.lt_succ_self _), if_neg (Nat.lt_irrefl _), add_zero]
  congr 1
  refine Finset.sum_congr rfl fun m hm => ?_
  have : m.val ≠ n.val := fun h => (Finset.mem_erase.mp hm).1 (Fin.ext h)
  by_cases h : m.val < n.val
  · rw [if_pos h, if_pos (by omega)]
  · rw [if_neg h, if_neg (by omega)]

variable (G : BufTy.Contents (Elt Ideal) arg15.view.ty) (L : List (View.Piece (Elt Ideal) S128x512 .f32)) (r : Fin 128) (j : Fin 512)

/-- The trips before `n` add the products of the super-blocks before `n` to what the accumulator held. -/
theorem acc_apply : ∀ n, n ≤ k0_t6_loop.trips →
    arg15.view.read (Elt Ideal) (arg15.view.writes (Elt Ideal) G (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X2 X3 X12 X14 (arg15.view.writes (Elt Ideal) G L) n ++ L)) (ix2 r j)
      = arg15.view.read (Elt Ideal) (arg15.view.writes (Elt Ideal) G L) (ix2 r j)
        + partialSum (arg12.view.read (Elt Ideal) X12)
          (weight (arg2.view.read (Elt Ideal) X2) (arg3.view.read (Elt Ideal) X3) (arg14.view.read (Elt Ideal) X14)) n r j
  | 0, _ => by
    unfold partialSum
    rw [Finset.sum_eq_zero fun m _ => if_neg (Nat.not_lt_zero _), add_zero]
    rfl
  | n + 1, hn => by
    have hk : n < 56 := Nat.lt_of_lt_of_le hn k0_t6_abs.2.1
    have ih := acc_apply n (Nat.le_of_succ_le hn)
    rw [View.writes_append] at ih
    rw [pb_k0_t6_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X2 X3 X12 X14 _ ⟨n, hn⟩, partialSum_succ _ _ ⟨n, hk⟩, ← add_assoc, ← ih]
    unfold tripL_k0_t6 trip_k0_t6
    dsimp only
    rw [List.cons_append, List.nil_append]
    refine (View.read_writes_cons_unit_of_mem arg15.view _ _ _ _ (ix2 r j) (ix2 r j) rfl (fun a => (by fin_cases a <;> exact (Nat.zero_add _).symm))).trans ?_
    refine (step_apply _ _ _ r j).trans (congrArg₂ (· + ·) ?_ ?_)
    · exact readAt_unit _ _ _ rfl _ _ (fun a => (by fin_cases a <;> exact (Nat.zero_add _).symm))
    · refine Finset.sum_congr rfl fun κ _ => ?_
      refine congrArg₂ (· * ·) ?_ (weights_apply _ _ _ _ _ _ ⟨n, hn⟩ ⟨n, hk⟩ rfl κ j)
      exact readAt_unit _ _ _ (k0_off44_eq ⟨n, hn⟩) _ _ (fun a => (by fin_cases a <;> first | rfl | exact (Nat.zero_add _).symm))

end Cert.KernelIdeal.Body
-- ==== Proof.BlockAcc.lean ====
/- What one grid point of the kernel leaves in its accumulator. -/
module

public import proofs.«01_k».proof.Proof.XpLoop
public import proofs.«01_k».proof.Proof.AccLoop

@[expose] public section

set_option maxRecDepth 16384

noncomputable section

namespace Cert.KernelIdeal.Body

open Idealize.ShloMosaic Idealize.ShloMosaic.TcCoe Cert.KernelIdeal.Gen

/-- The super-blocks' scales of 512 columns, by 128-column slab. -/
def slabScales (d : Vec Ideal S56x512 .f16) : Vec Ideal S4x56x128 .f32 := fun y => d (ix2 (y 1) ⟨128 * (y 0).val + (y 2).val, by
  have h0 : (y 0).val < 4 := (y 0).isLt
  have h2 : (y 2).val < 128 := (y 2).isLt
  omega⟩)

/-- Every scale of 512 columns: of each slab, the products of the super-blocks' scales and their sub-blocks'. -/
def scales (s0 s1 s2 s3 : Vec Ideal S56x16x128 .i8) (d : Vec Ideal S56x512 .f16) : Vec Ideal S4x448x2x128 .bf16 :=
  fun y => slab ((![s0, s1, s2, s3] : Fin 4 → Vec Ideal S56x16x128 .i8) (y 0)) (slabScales d) (y 0) (y 1) (y 2) (y 3)

/-- The accumulator of 512 columns: the sum over the super-blocks of the activation's products with the weights. -/
def accOf (x : Vec Ideal S56x128x256 .bf16) (ql : Vec Ideal S56x2x64x512 .i8) (qh : Vec Ideal S56x2x32x512 .i8)
    (s0 s1 s2 s3 : Vec Ideal S56x16x128 .i8) (d : Vec Ideal S56x512 .f16) : Vec Ideal S128x512 .f32 :=
  fun y => ∑ m : Fin 56, ∑ κ : Fin 256, x (ix3 m (y 0) κ) * weight ql qh (scales s0 s1 s2 s3 d) m κ (y 1)

theorem slab_congr (sc : Vec Ideal S56x16x128 .i8) (df df' : Vec Ideal S4x56x128 .f32) (g : Fin 4) (hdf : ∀ n l, df (ix3 g n l) = df' (ix3 g n l))
    (ρ : Fin 448) (f : Fin 2) (l : Fin 128) : slab sc df g ρ f l = slab sc df' g ρ f l := by
  unfold slab
  rw [hdf]

/-- The slab of super-block scales that was stored last. -/
theorem read_slab (v : View sig .tc .vmem S4x56x128 .f32) (f : v.ty.Contents (Elt Ideal)) (L : List (View.Piece (Elt Ideal) S4x56x128 .f32)) (g : Fin 4)
    {o : Fin 3 → ℕ} (inb : ∀ a, o a + S1x56x128.size a ≤ S4x56x128.size a) (e : o = ![g.val, 0, 0]) (w : Vec Ideal S1x56x128 .f32)
    (d : Vec Ideal S56x512 .f16) (u : Vec Ideal S56x128 .f16) (hw : w = k0_pay135 (F := Ideal) u)
    (hu : ∀ n l, u (ix2 n l) = d (ix2 n ⟨128 * g.val + l.val, by omega⟩)) (n : Fin 56) (l : Fin 128) :
    v.read (Elt Ideal) (v.writes (Elt Ideal) f (⟨Rect.unit o S1x56x128.size inb, w⟩ :: L)) (ix3 g n l) = slabScales d (ix3 g n l) := by
  subst hw
  refine (View.read_writes_cons_unit_of_mem v f inb _ L (ix3 g n l) (ix3 0 n l) e (by
    intro a
    fin_cases a <;> first | rfl | exact (Nat.zero_add _).symm)).trans ?_
  have h : k0_pay135 (F := Ideal) u (ix3 0 n l) = u (ix2 n l) := by
    pointwise [k0_pay135]
  rw [h, hu]
  rfl

variable (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x2x128 .bf16) (harg14 : arg14.IsWhole) (arg15 : Memref sig .tc .vmem S128x512 .f32) (harg15 : arg15.IsWhole)
variable (x1 : Vec Ideal S56x2x64x512 .i8) (x2 : Vec Ideal S56x2x32x512 .i8) (x3 x4 x5 x6 : Vec Ideal S56x16x128 .i8) (x7 : Vec Ideal S56x512 .f16)
  (fs0 : BufTy.Contents (Elt Ideal) arg12.view.ty) (fs1 fs1' : BufTy.Contents (Elt Ideal) arg13.view.ty) (fs2 : BufTy.Contents (Elt Ideal) arg14.view.ty)

/-- The super-block scales of the columns from `o` as the point loads them. -/
theorem load_d {o : Fin 2 → ℕ} (inb : ∀ a, o a + S56x128.size a ≤ S56x512.size a) (g : Fin 4) (e : o = ![0, 128 * g.val]) (n : Fin 56) (l : Fin 128) :
    arg8.view.readAt (Elt Ideal) (Rect.unit (s := S56x512) o S56x128.size inb).toLoadRect (harg8.unread x7) (ix2 n l)
      = x7 (ix2 n ⟨128 * g.val + l.val, by omega⟩) := by
  rw [readAt_unit arg8.view inb _ e (ix2 n l) (ix2 n ⟨128 * g.val + l.val, by omega⟩) (by
    intro a
    fin_cases a <;> first | rfl | exact (Nat.zero_add _).symm), harg8.read_unread]

/-- The scratch of scales after the point's four loops. -/
def scaleContents : BufTy.Contents (Elt Ideal) arg14.view.ty :=
  arg14.view.writes (Elt Ideal) fs2
    (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg7.unread x6) (arg13.view.writes (Elt Ideal) fs1' [⟨Rect.unit ![3, 0, 0] S1x56x128.size inb_S4x56x128_S1x56x128_3_0_0, k0_pay141 (F := Ideal) (arg8.view.readAt (Elt Ideal) (Rect.unit (s := S56x512) ![0, 384] S56x128.size inb_S56x512_S56x128_0_384).toLoadRect (harg8.unread x7))⟩, ⟨Rect.unit ![2, 0, 0] S1x56x128.size inb_S4x56x128_S1x56x128_2_0_0, k0_pay139 (F := Ideal) (arg8.view.readAt (Elt Ideal) (Rect.unit (s := S56x512) ![0, 256] S56x128.size inb_S56x512_S56x128_0_256).toLoadRect (harg8.unread x7))⟩, ⟨Rect.unit ![1, 0, 0] S1x56x128.size inb_S4x56x128_S1x56x128_1_0_0, k0_pay137 (F := Ideal) (arg8.view.readAt (Elt Ideal) (Rect.unit (s := S56x512) ![0, 128] S56x128.size inb_S56x512_S56x128_0_128).toLoadRect (harg8.unread x7))⟩, ⟨Rect.unit ![0, 0, 0] S1x56x128.size inb_S4x56x128_S1x56x128_0_0_0, k0_pay135 (F := Ideal) (arg8.view.readAt (Elt Ideal) (Rect.unit (s := S56x512) ![0, 0] S56x128.size inb_S56x512_S56x128_0_0).toLoadRect (harg8.unread x7))⟩]) k0_t5_loop.trips ++
    (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg6.unread x5) (arg13.view.writes (Elt Ideal) fs1 [⟨Rect.unit ![2, 0, 0] S1x56x128.size inb_S4x56x128_S1x56x128_2_0_0, k0_pay139 (F := Ideal) (arg8.view.readAt (Elt Ideal) (Rect.unit (s := S56x512) ![0, 256] S56x128.size inb_S56x512_S56x128_0_256).toLoadRect (harg8.unread x7))⟩, ⟨Rect.unit ![1, 0, 0] S1x56x128.size inb_S4x56x128_S1x56x128_1_0_0, k0_pay137 (F := Ideal) (arg8.view.readAt (Elt Ideal) (Rect.unit (s := S56x512) ![0, 128] S56x128.size inb_S56x512_S56x128_0_128).toLoadRect (harg8.unread x7))⟩, ⟨Rect.unit ![0, 0, 0] S1x56x128.size inb_S4x56x128_S1x56x128_0_0_0, k0_pay135 (F := Ideal) (arg8.view.readAt (Elt Ideal) (Rect.unit (s := S56x512) ![0, 0] S56x128.size inb_S56x512_S56x128_0_0).toLoadRect (harg8.unread x7))⟩]) k0_t4_loop.trips ++
    (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg5.unread x4) (arg13.view.writes (Elt Ideal) fs1 [⟨Rect.unit ![1, 0, 0] S1x56x128.size inb_S4x56x128_S1x56x128_1_0_0, k0_pay137 (F := Ideal) (arg8.view.readAt (Elt Ideal) (Rect.unit (s := S56x512) ![0, 128] S56x128.size inb_S56x512_S56x128_0_128).toLoadRect (harg8.unread x7))⟩, ⟨Rect.unit ![0, 0, 0] S1x56x128.size inb_S4x56x128_S1x56x128_0_0_0, k0_pay135 (F := Ideal) (arg8.view.readAt (Elt Ideal) (Rect.unit (s := S56x512) ![0, 0] S56x128.size inb_S56x512_S56x128_0_0).toLoadRect (harg8.unread x7))⟩]) k0_t3_loop.trips ++
    pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg4.unread x3) (arg13.view.writes (Elt Ideal) fs1 [⟨Rect.unit ![0, 0, 0] S1x56x128.size inb_S4x56x128_S1x56x128_0_0_0, k0_pay135 (F := Ideal) (arg8.view.readAt (Elt Ideal) (Rect.unit (s := S56x512) ![0, 0] S56x128.size inb_S56x512_S56x128_0_0).toLoadRect (harg8.unread x7))⟩]) k0_t2_loop.trips)))

theorem scaleContents_read : arg14.view.read (Elt Ideal) (scaleContents c i arg1 harg1 arg2 harg2 arg3 harg3 arg4 harg4 arg5 harg5 arg6 harg6 arg7 harg7 arg8 harg8 arg9 harg9 arg10 harg10 arg11 harg11 arg12 harg12 arg13 harg13 arg14 harg14 arg15 harg15 x3 x4 x5 x6 x7 fs1 fs1' fs2)
    = scales x3 x4 x5 x6 x7 := by
  refine funext fun y => ?_
  obtain ⟨g, ρ, f, l, rfl⟩ : ∃ g ρ f l, y = ix4 g ρ f l := ⟨_, _, _, _, eq_ix4 y⟩
  unfold scaleContents
  have h448 : ∀ n, n = 14 → ρ.val < 32 * n := fun n h => by omega
  have hL := (List.append_nil (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg4.unread x3) (arg13.view.writes (Elt Ideal) fs1 [⟨Rect.unit ![0, 0, 0] S1x56x128.size inb_S4x56x128_S1x56x128_0_0_0, k0_pay135 (F := Ideal) (arg8.view.readAt (Elt Ideal) (Rect.unit (s := S56x512) ![0, 0] S56x128.size inb_S56x512_S56x128_0_0).toLoadRect (harg8.unread x7))⟩]) k0_t2_loop.trips)).symm
  rw [loop3_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ g ρ f l _ _ (Nat.le_refl _), loop2_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ g ρ f l _ _ (Nat.le_refl _),
    loop1_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ g ρ f l _ _ (Nat.le_refl _), hL, loop0_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ g ρ f l _ _ (Nat.le_refl _),
    harg4.read_unread, harg5.read_unread, harg6.read_unread, harg7.read_unread]
  unfold scales
  match g with
  | 0 =>
    rw [if_neg fun h => absurd h.1 (by decide), if_neg fun h => absurd h.1 (by decide), if_neg fun h => absurd h.1 (by decide), if_pos ⟨rfl, h448 _ (by decide)⟩]
    exact slab_congr _ _ _ 0 (read_slab _ _ _ 0 _ rfl _ x7 _ rfl (load_d _ harg8 x7 _ 0 rfl)) ρ f l
  | 1 =>
    rw [if_neg fun h => absurd h.1 (by decide), if_neg fun h => absurd h.1 (by decide), if_pos ⟨rfl, h448 _ (by decide)⟩]
    exact slab_congr _ _ _ 1 (read_slab _ _ _ 1 _ rfl _ x7 _ rfl (load_d _ harg8 x7 _ 1 rfl)) ρ f l
  | 2 =>
    rw [if_neg fun h => absurd h.1 (by decide), if_pos ⟨rfl, h448 _ (by decide)⟩]
    exact slab_congr _ _ _ 2 (read_slab _ _ _ 2 _ rfl _ x7 _ rfl (load_d _ harg8 x7 _ 2 rfl)) ρ f l
  | 3 =>
    rw [if_pos ⟨rfl, h448 _ (by decide)⟩]
    exact slab_congr _ _ _ 3 (read_slab _ _ _ 3 _ rfl _ x7 _ rfl (load_d _ harg8 x7 _ 3 rfl)) ρ f l

/-- The zeros that start the accumulator. -/
def accStart : List (View.Piece (Elt Ideal) S128x512 .f32) := [⟨Rect.unit ![0, 0] S128x512.size inb_S128x512_S128x512_0_0, k0_pay143 (F := Ideal)⟩]

/-- What the point's loop over the super-blocks stores in the accumulator. -/
def accPieces : List (View.Piece (Elt Ideal) S128x512 .f32) :=
    pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x1) (harg3.unread x2) fs0
      (scaleContents c i arg1 harg1 arg2 harg2 arg3 harg3 arg4 harg4 arg5 harg5 arg6 harg6 arg7 harg7 arg8 harg8 arg9 harg9 arg10 harg10 arg11 harg11 arg12 harg12 arg13 harg13 arg14 harg14 arg15 harg15 x3 x4 x5 x6 x7 fs1 fs1' fs2) (arg15.view.writes (Elt Ideal) arg15.view.junk accStart) k0_t6_loop.trips ++ accStart

/-- The accumulator after that loop. -/
def accContents : BufTy.Contents (Elt Ideal) arg15.view.ty :=
  arg15.view.writes (Elt Ideal) arg15.view.junk (accPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 fs0 fs1 fs1' fs2)

theorem accContents_read : arg15.view.read (Elt Ideal) (accContents c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 fs0 fs1 fs1' fs2)
    = accOf (arg12.view.read (Elt Ideal) fs0) x1 x2 x3 x4 x5 x6 x7 := by
  refine funext fun y => ?_
  obtain ⟨r, j, rfl⟩ : ∃ r j, y = ix2 r j := ⟨_, _, eq_ix2 y⟩
  unfold accContents accPieces
  rw [acc_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ r j _ (Nat.le_refl _), scaleContents_read, harg2.read_unread, harg3.read_unread]
  have h0 : arg15.view.read (Elt Ideal) (arg15.view.writes (Elt Ideal) arg15.view.junk accStart) (ix2 r j) = 0 := by
    refine (View.read_writes_cons_unit_of_mem arg15.view _ _ _ _ (ix2 r j) (ix2 r j) rfl (fun a => (by fin_cases a <;> exact (Nat.zero_add _).symm))).trans ?_
    pointwise [k0_pay143]
  rw [h0, zero_add]
  unfold partialSum accOf
  exact Finset.sum_congr rfl fun m _ => if_pos (lt_of_lt_of_eq m.isLt (by decide))

/-- The point's load of the whole accumulator. -/
theorem acc_load : arg15.view.readCov (accPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 fs0 fs1 fs1' fs2)
      (Rect.unit (s := S128x512) ![0, 0] S128x512.size inb_S128x512_S128x512_0_0).toLoadRect
    = accOf (arg12.view.read (Elt Ideal) fs0) x1 x2 x3 x4 x5 x6 x7 := by
  rw [← accContents_read c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 fs0 fs1 fs1' fs2]
  refine funext fun y => ?_
  exact readAt_unit _ _ _ rfl y y (fun a => (by fin_cases a <;> exact (Nat.zero_add _).symm))

end Cert.KernelIdeal.Body
-- ==== Proof.PowerOfTwo.lean ====
/- The scale of a group: the least power of two above a value, found by a search on exponents or as a minimum. -/
module

public import Idealize.ShloMosaic.Lib.Pointwise

@[expose] public section

noncomputable section

namespace Cert.Scale

open Idealize.ShloMosaic

/-- The f32 word with exponent field `E` and nothing else, and its value. -/
def word (E : ℕ) : BitVec 32 := BitVec.ofNat 32 (E * 8388608)
def pw (E : ℕ) : EReal := Ideal.ofBits .f32 (word E)

theorem word_add (a b : ℕ) : word a + word b = word (a + b) := by
  unfold word
  rw [← BitVec.ofNat_add, ← Nat.add_mul]

theorem word_toNat (a : ℕ) (ha : a ≤ 255) : (word a).toNat = a * 8388608 := by
  unfold word
  rw [BitVec.toNat_ofNat]
  omega

theorem word_sub (a b : ℕ) (hb : b ≤ a) (ha : a ≤ 255) : word a - word b = word (a - b) := by
  apply BitVec.eq_of_toNat_eq
  rw [BitVec.toNat_sub, word_toNat a ha, word_toNat b (by omega), word_toNat (a - b) (by omega)]
  omega

theorem word_inj (a b : ℕ) (ha : a ≤ 255) (hb : b ≤ 255) : word a = word b ↔ a = b := by
  constructor
  · intro h
    have := congrArg BitVec.toNat h
    rw [word_toNat a ha, word_toNat b hb] at this
    omega
  · rintro rfl; rfl

theorem pw_eq (E : ℕ) (h1 : 1 ≤ E) (h2 : E ≤ 254) : pw E = (((2 : ℝ) ^ ((E : ℤ) - 127) : ℝ) : EReal) := by
  have hn : (BitVec.ofNat 32 (E * 8388608)).toNat = E * 8388608 := by
    rw [BitVec.toNat_ofNat]; omega
  have hneg : ((BitVec.ofNat 32 (E * 8388608)).extractLsb' 31 1 == 1#1) = false := by
    rw [beq_eq_false_iff_ne]
    intro h
    have := congrArg BitVec.toNat h
    rw [BitVec.extractLsb'_toNat, hn, Nat.shiftRight_eq_div_pow] at this
    simp only [BitVec.toNat_ofNat] at this
    omega
  have hex : ((BitVec.ofNat 32 (E * 8388608)).extractLsb' 23 8).toNat = E := by
    rw [BitVec.extractLsb'_toNat, hn, Nat.shiftRight_eq_div_pow]; omega
  have hfr : ((BitVec.ofNat 32 (E * 8388608)).extractLsb' 0 23).toNat = 0 := by
    rw [BitVec.extractLsb'_toNat, hn, Nat.shiftRight_eq_div_pow]; omega
  unfold pw word
  show Ideal.ieee 8 23 _ = _
  unfold Ideal.ieee
  dsimp only
  rw [hneg, hex, hfr, if_neg (by omega), if_neg (by omega)]
  congr 1
  rw [if_neg (by decide), show ((2 : ℤ) ^ (8 - 1) - 1 : ℤ) = 127 by norm_num,
    show ((2 ^ 23 + 0 : ℕ) : ℝ) = (2 : ℝ) ^ (23 : ℤ) by norm_num, one_mul, ← zpow_add₀ (by norm_num)]
  congr 1
  push_cast
  omega

theorem pw_zero : pw 0 = 0 := by
  unfold pw word
  exact Ideal.ofBits_zero .f32

theorem pw_le {a b : ℕ} (ha : 1 ≤ a) (hab : a ≤ b) (hb : b ≤ 254) : pw a ≤ pw b := by
  rw [pw_eq a ha (by omega), pw_eq b (by omega) hb]
  exact EReal.coe_le_coe_iff.mpr (zpow_le_zpow_right₀ (by norm_num) (by omega))

theorem pw_lt {a b : ℕ} (ha : 1 ≤ a) (ha' : a ≤ 254) (hb : 1 ≤ b) (hb' : b ≤ 254) (h : pw a < pw b) : a < b := by
  by_contra hn
  exact absurd (pw_le hb (by omega) ha') (not_le.mpr h)

/-- One step of the search: the exponent goes up by `w` when the value is at least that power. -/
def step (v : EReal) (e w : ℕ) : ℕ := if pw (e + w) ≤ v then e + w else e

theorem step_spec (v : EReal) (e w : ℕ) (h1 : e = 0 ∨ pw e ≤ v) (h2 : e + 2 * w = 256 ∨ v < pw (e + 2 * w)) :
    (step v e w = 0 ∨ pw (step v e w) ≤ v) ∧ (step v e w + w = 256 ∨ v < pw (step v e w + w)) := by
  unfold step
  by_cases h : pw (e + w) ≤ v
  · rw [if_pos h]
    refine ⟨.inr h, ?_⟩
    rwa [show e + w + w = e + 2 * w by omega]
  · rw [if_neg h]
    exact ⟨h1, .inr (not_le.mp h)⟩

theorem step_le (v : EReal) (e w : ℕ) : step v e w ≤ e + w := by
  unfold step; split <;> omega

/-- The search, from the exponent's highest bit down. -/
def expo (v : EReal) : ℕ := step v (step v (step v (step v (step v (step v (step v (step v 0 128) 64) 32) 16) 8) 4) 2) 1

theorem expo_spec (v : EReal) : (expo v = 0 ∨ pw (expo v) ≤ v) ∧ (expo v + 1 = 256 ∨ v < pw (expo v + 1)) := by
  have a7 := step_spec v 0 128 (.inl rfl) (.inl rfl)
  have a6 := step_spec v _ 64 a7.1 a7.2
  have a5 := step_spec v _ 32 a6.1 a6.2
  have a4 := step_spec v _ 16 a5.1 a5.2
  have a3 := step_spec v _ 8 a4.1 a4.2
  have a2 := step_spec v _ 4 a3.1 a3.2
  have a1 := step_spec v _ 2 a2.1 a2.2
  exact step_spec v _ 1 a1.1 a1.2

theorem expo_le (v : EReal) : expo v ≤ 255 := by
  have a7 := step_le v 0 128
  have a6 := step_le v (step v 0 128) 64
  have a5 := step_le v (step v (step v 0 128) 64) 32
  have a4 := step_le v (step v (step v (step v 0 128) 64) 32) 16
  have a3 := step_le v (step v (step v (step v (step v 0 128) 64) 32) 16) 8
  have a2 := step_le v (step v (step v (step v (step v (step v 0 128) 64) 32) 16) 8) 4
  have a1 := step_le v (step v (step v (step v (step v (step v (step v 0 128) 64) 32) 16) 8) 4) 2
  have a0 := step_le v (step v (step v (step v (step v (step v (step v (step v 0 128) 64) 32) 16) 8) 4) 2) 1
  unfold expo
  omega

/-- The exponent the kernel goes on with: 255 from `2 ^ 126` on. -/
def kexp (v : EReal) : ℕ := if pw 253 ≤ v then 255 else expo v

/-- The kernel's scale and its inverse. -/
def kscale (v : EReal) : EReal := if kexp v = 0 ∨ kexp v = 255 then 1 else pw (kexp v + 1)
def kinv (v : EReal) : EReal := if kexp v = 0 ∨ kexp v = 255 then 1 else pw (253 - kexp v)

/-- The scale stated plainly: the least power of two above `v`, where `v` is between `2 ^ -126` and `2 ^ 126`; else 1. -/
def rscale (v : EReal) : EReal :=
  if pw 1 ≤ v ∧ v < pw 253 then
    Finset.univ.fold min ⊤ fun i : Fin 252 => if v < (((2 : ℝ) ^ ((i.val : ℤ) - 125) : ℝ) : EReal) then (((2 : ℝ) ^ ((i.val : ℤ) - 125) : ℝ) : EReal) else pw 253
  else 1

theorem power_eq (i : Fin 252) : (((2 : ℝ) ^ ((i.val : ℤ) - 125) : ℝ) : EReal) = pw (i.val + 2) := by
  rw [pw_eq _ (by omega) (by omega)]
  congr 2
  push_cast
  omega

/-- In range the search's exponent is that of the power at or below. -/
theorem kexp_of (v : EReal) (h1 : pw 1 ≤ v) (h2 : v < pw 253) :
    kexp v = expo v ∧ 1 ≤ expo v ∧ expo v ≤ 252 ∧ pw (expo v) ≤ v ∧ v < pw (expo v + 1) := by
  have hs := expo_spec v
  have hle := expo_le v
  have h0 : expo v ≠ 0 := by
    intro h
    rw [h] at hs
    rcases hs.2 with h' | h'
    · omega
    · exact absurd h1 (not_le.mpr h')
  have hp : pw (expo v) ≤ v := hs.1.resolve_left h0
  have h255 : expo v ≠ 255 := by
    intro h
    rw [h] at hp
    have ht : pw 255 = ⊤ := by
      unfold pw
      simp [word, Ideal.ofBits, Ideal.ieee]
    rw [ht, top_le_iff] at hp
    rw [hp] at h2
    exact absurd h2 not_top_lt
  have h252 : expo v < 253 := pw_lt (by omega) (by omega) (by decide) (by decide) (lt_of_le_of_lt hp h2)
  exact ⟨if_neg (not_le.mpr h2), by omega, by omega, hp, hs.2.resolve_left (by omega)⟩

/-- Out of range the search ends at 0 or 255. -/
theorem kexp_of_not (v : EReal) (h : ¬ (pw 1 ≤ v ∧ v < pw 253)) : kexp v = 0 ∨ kexp v = 255 := by
  unfold kexp
  by_cases h2 : pw 253 ≤ v
  · exact .inr (if_pos h2)
  · rw [if_neg h2]
    left
    have h1 : v < pw 1 := not_le.mp fun h1 => h ⟨h1, not_le.mp h2⟩
    have hs := expo_spec v
    have hle := expo_le v
    by_contra h0
    have hp := hs.1.resolve_left h0
    by_cases h255 : expo v = 255
    · rw [h255] at hp
      have ht : pw 255 = ⊤ := by
        unfold pw
        simp [word, Ideal.ofBits, Ideal.ieee]
      rw [ht, top_le_iff] at hp
      rw [hp] at h1
      exact absurd h1 not_top_lt
    · exact absurd (pw_lt (by omega) (by omega) (by decide) (by decide) (lt_of_le_of_lt hp h1)) (by omega)

theorem least_power (v : EReal) (E : ℕ) (h1 : 1 ≤ E) (h2 : E ≤ 252) (hl : pw E ≤ v) (hu : v < pw (E + 1)) :
    (Finset.univ.fold min ⊤ fun i : Fin 252 => if v < (((2 : ℝ) ^ ((i.val : ℤ) - 125) : ℝ) : EReal) then (((2 : ℝ) ^ ((i.val : ℤ) - 125) : ℝ) : EReal) else pw 253)
      = pw (E + 1) := by
  simp only [power_eq]
  refine le_antisymm ?_ ?_
  · rw [Finset.fold_min_le]
    refine .inr ⟨⟨E - 1, by omega⟩, Finset.mem_univ _, ?_⟩
    show (if v < pw (E - 1 + 2) then pw (E - 1 + 2) else pw 253) ≤ pw (E + 1)
    rw [show E - 1 + 2 = E + 1 by omega, if_pos hu]
  · rw [Finset.le_fold_min]
    refine ⟨le_top, fun i _ => ?_⟩
    split
    · rename_i h
      exact pw_le (by omega) (pw_lt (by omega) (by omega) (by omega) (by omega) (lt_of_le_of_lt hl h)) (by omega)
    · exact pw_le (by omega) (by omega) (by decide)

theorem kscale_eq (v : EReal) : kscale v = rscale v := by
  unfold kscale rscale
  by_cases h : pw 1 ≤ v ∧ v < pw 253
  · obtain ⟨hk, h1, h2, hl, hu⟩ := kexp_of v h.1 h.2
    rw [if_pos h, hk, if_neg (by omega), least_power v _ h1 h2 hl hu]
  · rw [if_neg h, if_pos (kexp_of_not v h)]

theorem kinv_eq (v : EReal) : kinv v = Ideal.div 1 (rscale v) := by
  unfold kinv rscale
  by_cases h : pw 1 ≤ v ∧ v < pw 253
  · obtain ⟨hk, h1, h2, hl, hu⟩ := kexp_of v h.1 h.2
    rw [if_pos h, hk, if_neg (by omega), least_power v _ h1 h2 hl hu, pw_eq _ (by omega) (by omega), pw_eq _ (by omega) (by omega)]
    unfold Ideal.div
    have hne : ((2 : ℝ) ^ (((expo v + 1 : ℕ) : ℤ) - 127)) ≠ 0 := zpow_ne_zero _ (by norm_num)
    rw [if_neg (by rw [← EReal.coe_zero]; exact fun h => hne (EReal.coe_injective h)), one_mul, ← EReal.coe_inv, ← zpow_neg]
    congr 2
    omega
  · rw [if_neg h, if_pos (kexp_of_not v h)]
    unfold Ideal.div
    rw [if_neg one_ne_zero, one_mul, inv_one]

end Cert.Scale
-- ==== Proof.Epilogue.lean ====
/- What one grid point of the kernel makes of its accumulator: the outputs, their codes and their scales. -/
module

public import proofs.«01_k».proof.Proof.ScaleLoops
public import proofs.«01_k».proof.Proof.PowerOfTwo

@[expose] public section

set_option maxRecDepth 16384

noncomputable section

namespace Cert.Scale

open Idealize.ShloMosaic

theorem kexp_cases (v : EReal) : kexp v = 0 ∨ kexp v = 255 ∨ (1 ≤ kexp v ∧ kexp v ≤ 252) := by
  by_cases h : pw 1 ≤ v ∧ v < pw 253
  · obtain ⟨hk, h1, h2, -, -⟩ := kexp_of v h.1 h.2
    exact .inr (.inr ⟨hk ▸ h1, hk ▸ h2⟩)
  · rcases kexp_of_not v h with h | h
    · exact .inl h
    · exact .inr (.inl h)

/-- A quantity's threshold: the greatest magnitude of its group over 448. -/
def top (a : Fin 128 → EReal) : EReal :=
  Finset.univ.fold max (Ideal.ofBits .f32 4286578688#32) (fun x => FloatOps.absf (F := Ideal) (φ := .f32) (a x)) * Ideal.ofBits .f32 991054117#32

/-- A value as a code's: held between −448 and 448. -/
def clamp (x : EReal) : EReal := min (Ideal.ofBits .f32 1138753536#32) (max (Ideal.ofBits .f32 3286237184#32) x)

end Cert.Scale

namespace Cert.KernelIdeal.Epilogue

open Idealize.ShloMosaic Idealize.ShloMosaic.TcCoe Cert.KernelIdeal.Gen Cert.Scale

/-! ## The exponent search on vectors -/

def stepV (v : FVec Ideal S128x128 .f32) (b : IVec S128x128 32) (w : BitVec 32) : IVec S128x128 32 :=
  select (cmpf .oge v (bitcastToFloat .f32 (addi b (broadcast S128x128 w)))) (addi b (broadcast S128x128 w)) b

def bitsV (v : FVec Ideal S128x128 .f32) : IVec S128x128 32 :=
  select (cmpf .oge v (broadcast S128x128 (Scalar.ofBits .f32 0x7E800000#32))) (broadcast S128x128 2139095040#32)
    (stepV v (stepV v (stepV v (stepV v (stepV v (stepV v (stepV v (stepV v (broadcast S128x128 0#32) 1073741824#32) 536870912#32) 268435456#32) 134217728#32) 67108864#32) 33554432#32) 16777216#32) 8388608#32)

theorem stepV_apply (v : FVec Ideal S128x128 .f32) (b : IVec S128x128 32) (y : S128x128.Idx) (W : BitVec 32) (e w : ℕ) (hW : W = word w)
    (hb : b y = word e) : stepV v b W y = word (step (v y) e w) := by
  obtain ⟨r, l, rfl⟩ : ∃ r l, y = ix2 r l := ⟨_, _, eq_ix2 y⟩
  have h : stepV v b W (ix2 r l)
      = if Ideal.ofBits .f32 (b (ix2 r l) + W) ≤ v (ix2 r l) then b (ix2 r l) + W else b (ix2 r l) := by
    pointwise [stepV]
    rfl
  rw [h, hb, hW, word_add]
  unfold step pw
  split <;> rfl

theorem choose_big (v : FVec Ideal S128x128 .f32) (b : IVec S128x128 32) (y : S128x128.Idx) :
    select (cmpf .oge v (broadcast S128x128 (Scalar.ofBits .f32 0x7E800000#32))) (broadcast S128x128 2139095040#32) b y
      = if Ideal.ofBits .f32 0x7E800000#32 ≤ v y then 2139095040#32 else b y := by
  obtain ⟨r, l, rfl⟩ : ∃ r l, y = ix2 r l := ⟨_, _, eq_ix2 y⟩
  pointwise []

theorem word_253 : 2122317824#32 = word 253 := by unfold word; decide
theorem word_255 : 2139095040#32 = word 255 := by unfold word; decide
theorem word_127 : 1065353216#32 = word 127 := by unfold word; decide
theorem word_1 : 8388608#32 = word 1 := by unfold word; decide
theorem word_0 : 0#32 = word 0 := by unfold word; decide

theorem bitsV_apply (v : FVec Ideal S128x128 .f32) (y : S128x128.Idx) : bitsV v y = word (kexp (v y)) := by
  unfold bitsV
  rw [choose_big]
  have h7 := stepV_apply v (broadcast S128x128 0#32) y 1073741824#32 0 128 (by unfold word; decide) word_0
  have h6 := stepV_apply v _ y 536870912#32 _ 64 (by unfold word; decide) h7
  have h5 := stepV_apply v _ y 268435456#32 _ 32 (by unfold word; decide) h6
  have h4 := stepV_apply v _ y 134217728#32 _ 16 (by unfold word; decide) h5
  have h3 := stepV_apply v _ y 67108864#32 _ 8 (by unfold word; decide) h4
  have h2 := stepV_apply v _ y 33554432#32 _ 4 (by unfold word; decide) h3
  have h1 := stepV_apply v _ y 16777216#32 _ 2 (by unfold word; decide) h2
  have h0 := stepV_apply v _ y 8388608#32 _ 1 word_1 h1
  rw [h0]
  unfold kexp expo pw
  rw [word_253, word_255]
  split <;> rfl

def flatV (b : IVec S128x128 32) : IVec S128x128 1 := ori (cmpi .eq b (broadcast S128x128 0#32)) (cmpi .eq b (broadcast S128x128 2139095040#32))

def scaleV (b : IVec S128x128 32) : FVec Ideal S128x128 .f32 :=
  bitcastToFloat .f32 (select (flatV b) (broadcast S128x128 1065353216#32) (addi b (broadcast S128x128 8388608#32)))

def invV (b : IVec S128x128 32) : FVec Ideal S128x128 .f32 :=
  bitcastToFloat .f32 (select (flatV b) (broadcast S128x128 1065353216#32) (subi (broadcast S128x128 2122317824#32) b))

theorem choose_flat (x a c : BitVec 32) :
    Scalar.select (IntOp.ori (IntOp.cmpi .eq x 0#32) (IntOp.cmpi .eq x 2139095040#32)) a c = if x = 0#32 ∨ x = 2139095040#32 then a else c := by
  by_cases h0 : x = 0#32
  · simp [IntOp.cmpi, IntOp.ori, Scalar.select, h0]
  · by_cases h1 : x = 2139095040#32
    · simp [IntOp.cmpi, IntOp.ori, Scalar.select, h1]
    · have e0 : (x == 0#32) = false := beq_eq_false_iff_ne.mpr h0
      have e1 : (x == 2139095040#32) = false := beq_eq_false_iff_ne.mpr h1
      simp [IntOp.cmpi, IntOp.ori, Scalar.select, h0, h1, e0, e1]

theorem flat_iff (k : ℕ) (hk : k ≤ 255) : (word k = 0#32 ∨ word k = 2139095040#32) ↔ (k = 0 ∨ k = 255) := by
  rw [word_0, word_255, word_inj k 0 hk (by omega), word_inj k 255 hk (by omega)]

theorem scale_word (b : IVec S128x128 32) (y : S128x128.Idx) : scaleV b y
    = Ideal.ofBits .f32 (Scalar.select (IntOp.ori (IntOp.cmpi .eq (b y) 0#32) (IntOp.cmpi .eq (b y) 2139095040#32)) 1065353216#32 (b y + 8388608#32)) := rfl

theorem inv_word (b : IVec S128x128 32) (y : S128x128.Idx) : invV b y
    = Ideal.ofBits .f32 (Scalar.select (IntOp.ori (IntOp.cmpi .eq (b y) 0#32) (IntOp.cmpi .eq (b y) 2139095040#32)) 1065353216#32 (2122317824#32 - b y)) := rfl

theorem kexp_le (v : EReal) : kexp v ≤ 255 := by rcases kexp_cases v with h | h | h <;> omega

theorem scaleV_apply (v : FVec Ideal S128x128 .f32) (y : S128x128.Idx) : scaleV (bitsV v) y = kscale (v y) := by
  rw [scale_word, choose_flat, bitsV_apply]
  unfold kscale
  simp only [flat_iff _ (kexp_le _)]
  split
  · exact Ideal.ofBits_one_f32
  · rw [word_1, word_add]
    rfl

theorem invV_apply (v : FVec Ideal S128x128 .f32) (y : S128x128.Idx) : invV (bitsV v) y = kinv (v y) := by
  rw [inv_word, choose_flat, bitsV_apply]
  unfold kinv
  simp only [flat_iff _ (kexp_le _)]
  split
  · exact Ideal.ofBits_one_f32
  · rename_i hn
    rw [word_253, word_sub _ _ (by rcases kexp_cases (v y) with h | h | h <;> omega) (by omega)]
    rfl

/-! ## One tile of 128 columns -/

/-- The group's threshold in every lane of its row. -/
def topV (t : FVec Ideal S128x128 .f32) : FVec Ideal S128x128 .f32 :=
  mulf (broadcastTo S128x128 (shapeCast S128x1 (shapeCast S128x1 (multiReduction .maximumf [1] S128 (absf t) 0xFF800000#32 reduces_S128x128_S128 (.inl rfl) rfl) shapeCasts_S128_S128x1) shapeCasts_S128x1_S128x1) broadcasts_S128x1_S128x128)
    (broadcast S128x128 (Scalar.ofBits .f32 0x3B124925#32))

def codesV (t : FVec Ideal S128x128 .f32) : FVec Ideal S128x128 .fp8e4m3 :=
  truncf .fp8e4m3 (minimumf (broadcast S128x128 (Scalar.ofBits .f32 0x43E00000#32)) (maximumf (broadcast S128x128 (Scalar.ofBits .f32 0xC3E00000#32)) (mulf t (invV (bitsV (topV t)))))) bitsLt_fp8e4m3_f32

/-- The scales of a tile's rows, on the diagonal. -/
def diagV (t : FVec Ideal S128x128 .f32) : FVec Ideal S128x128 .f32 :=
  select k0_pay145 (scaleV (bitsV (topV t))) (broadcast S128x128 (Scalar.ofBits .f32 0x00000000#32))

def rowV (t : FVec Ideal S128x128 .f32) : FVec Ideal S1x128 .f32 :=
  shapeCast S1x128 (multiReduction .add [0] S128 (diagV t) 0x00000000#32 reduces_S128x128_S128_2 (.inl rfl) rfl) shapeCasts_S128_S1x128

theorem topV_apply (t : FVec Ideal S128x128 .f32) (r l : Fin 128) : topV t (ix2 r l) = top fun x => t (ix2 r x) := by
  pointwise [topV]
  rfl

theorem codesV_apply (t : FVec Ideal S128x128 .f32) (r l : Fin 128) :
    codesV t (ix2 r l) = clamp (t (ix2 r l) * kinv (top fun x => t (ix2 r x))) := by
  have h : ∀ w : FVec Ideal S128x128 .f32, truncf .fp8e4m3 (minimumf (broadcast S128x128 (Scalar.ofBits .f32 0x43E00000#32)) (maximumf (broadcast S128x128 (Scalar.ofBits .f32 0xC3E00000#32)) (mulf t w))) bitsLt_fp8e4m3_f32 (ix2 r l)
      = clamp (t (ix2 r l) * w (ix2 r l)) := fun w => by
    unfold clamp
    pointwise []
  unfold codesV
  rw [h, invV_apply, topV_apply]

theorem diagV_apply (t : FVec Ideal S128x128 .f32) (r l : Fin 128) :
    diagV t (ix2 r l) = if r = l then kscale (top fun x => t (ix2 r x)) else 0 := by
  have h : diagV t (ix2 r l) = Scalar.select (k0_pay145 (ix2 r l)) (scaleV (bitsV (topV t)) (ix2 r l)) (Ideal.ofBits .f32 0x00000000#32) := rfl
  rw [h, scaleV_apply, topV_apply, Ideal.ofBits_zero_f32]
  have h145 : k0_pay145 (ix2 r l) = IntOp.cmpi .eq (BitVec.ofNat 32 r.val) (BitVec.ofNat 32 l.val) := by
    pointwise [k0_pay145]
  rw [h145]
  by_cases hrl : r = l
  · subst hrl
    simp [IntOp.cmpi, Scalar.select]
  · have hne : BitVec.ofNat 32 r.val ≠ BitVec.ofNat 32 l.val := by
      intro h
      have := congrArg BitVec.toNat h
      rw [BitVec.toNat_ofNat, BitVec.toNat_ofNat] at this
      exact hrl (Fin.ext (by omega))
    have e : (BitVec.ofNat 32 r.val == BitVec.ofNat 32 l.val) = false := beq_eq_false_iff_ne.mpr hne
    simp [IntOp.cmpi, Scalar.select, e, hrl]

theorem rowV_apply (t : FVec Ideal S128x128 .f32) (l : Fin 128) :
    rowV t (ix2 0 l) = kscale (top fun x => t (ix2 l x)) := by
  have h : rowV t (ix2 0 l) = ∑ r : Fin 128, diagV t (ix2 r l) := by
    unfold rowV
    generalize diagV t = D
    pointwise []
  rw [h]
  simp only [diagV_apply]
  rw [Finset.sum_ite_eq' Finset.univ l, if_pos (Finset.mem_univ _)]

/-! ## The run's names are these -/

/-- A tile of the accumulator: its 128 columns from `128 * g` on. -/
def tile (g : Fin 4) (A : Vec Ideal S128x512 .f32) : FVec Ideal S128x128 .f32 :=
  fun y => A (ix2 (y 0) ⟨128 * g.val + (y 1).val, by
    have h1 : (y 1).val < 128 := (y 1).isLt
    omega⟩)

theorem cut_eq (g : Fin 4) (o : Fin 2 → ℕ) (h : S128x512.Slices o S128x128) (ho : o = ![0, 128 * g.val]) (A : Vec Ideal S128x512 .f32) :
    extractStridedSlice S128x128 o A h = tile g A := by
  subst ho
  refine funext fun y => ?_
  obtain ⟨r, l, rfl⟩ : ∃ r l, y = ix2 r l := ⟨_, _, eq_ix2 y⟩
  unfold tile
  fin_cases g <;> pointwise []

variable (A : Vec Ideal S128x512 .f32)

theorem y0 : k0_pay146 A = tile 0 A := cut_eq 0 _ slices_S128x512_o0_0_S128x128 rfl A
theorem y1 : k0_pay155 A = tile 1 A := cut_eq 1 _ slices_S128x512_o0_128_S128x128 rfl A
theorem y2 : k0_pay167 A = tile 2 A := cut_eq 2 _ slices_S128x512_o0_256_S128x128 rfl A
theorem y3 : k0_pay178 A = tile 3 A := cut_eq 3 _ slices_S128x512_o0_384_S128x128 rfl A
theorem yf0 : k0_pay147 A = tile 0 A := y0 A
theorem yf1 : k0_pay156 A = tile 1 A := y1 A
theorem yf2 : k0_pay168 A = tile 2 A := y2 A
theorem yf3 : k0_pay179 A = tile 3 A := y3 A
theorem top0 : k0_pay148 A = topV (tile 0 A) := by rw [← yf0]; rfl
theorem top1 : k0_pay157 A = topV (tile 1 A) := by rw [← yf1]; rfl
theorem top2 : k0_pay169 A = topV (tile 2 A) := by rw [← yf2]; rfl
theorem top3 : k0_pay180 A = topV (tile 3 A) := by rw [← yf3]; rfl

theorem bits0 : k0_pay150 (k0_pay148 A) (k0_pay149 A) 536870912#32 = bitsV (topV (tile 0 A)) := by
  unfold k0_pay149
  rw [top0]
  generalize topV (tile 0 A) = v
  simp only [k0_pay150, bitsV, stepV]
theorem bits1 : k0_pay161 (k0_pay157 A) (k0_pay158 A) (k0_pay159 A) (k0_pay160 A) = bitsV (topV (tile 1 A)) := by
  unfold k0_pay160 k0_pay159 k0_pay158
  rw [top1]
  generalize topV (tile 1 A) = v
  simp only [k0_pay161, bitsV, stepV]
theorem bits2 : k0_pay171 (k0_pay169 A) (k0_pay170 A) 67108864#32 = bitsV (topV (tile 2 A)) := by
  unfold k0_pay170
  rw [top2]
  generalize topV (tile 2 A) = v
  simp only [k0_pay171, bitsV, stepV]
theorem bits3 : k0_pay184 (k0_pay180 A) (k0_pay181 A) (k0_pay182 A) (k0_pay183 A) = bitsV (topV (tile 3 A)) := by
  unfold k0_pay183 k0_pay182 k0_pay181
  rw [top3]
  generalize topV (tile 3 A) = v
  simp only [k0_pay184, bitsV, stepV]

/-- The codes that the point stores, tile by tile. -/
theorem codes0 : k0_pay153 (k0_pay147 A) (k0_pay150 (k0_pay148 A) (k0_pay149 A) 536870912#32) (k0_pay151 (k0_pay148 A) (k0_pay149 A) 536870912#32) = codesV (tile 0 A) := by
  unfold k0_pay151
  rw [bits0, yf0]
  unfold codesV
  generalize bitsV (topV (tile 0 A)) = b
  simp only [k0_pay153, invV, flatV]
theorem codes1 : k0_pay165 (k0_pay156 A) (k0_pay164 (k0_pay157 A) (k0_pay158 A) (k0_pay159 A) (k0_pay160 A)) = codesV (tile 1 A) := by
  unfold k0_pay164 k0_pay162
  rw [bits1, yf1]
  unfold codesV
  generalize bitsV (topV (tile 1 A)) = b
  simp only [k0_pay165, invV, flatV]
theorem codes2 : k0_pay176 (k0_pay174 (k0_pay168 A) (k0_pay169 A) (k0_pay170 A) 67108864#32) k0_pay175 = codesV (tile 2 A) := by
  unfold k0_pay174 k0_pay172
  rw [bits2, yf2]
  unfold codesV
  generalize bitsV (topV (tile 2 A)) = b
  simp only [k0_pay176, k0_pay175, invV, flatV]
theorem codes3 : k0_pay186 (k0_pay179 A) (k0_pay180 A) (k0_pay181 A) (k0_pay182 A) (k0_pay183 A) = codesV (tile 3 A) := by
  unfold k0_pay186 k0_pay185
  rw [bits3, yf3]
  unfold codesV
  generalize bitsV (topV (tile 3 A)) = b
  simp only [invV, flatV]

/-- The rows of scales, tile by tile. -/
theorem row0 : k0_pay154 k0_pay145 (k0_pay152 (k0_pay148 A) (k0_pay149 A) 536870912#32) = rowV (tile 0 A) := by
  unfold k0_pay152 k0_pay151
  rw [bits0]
  unfold rowV diagV
  generalize bitsV (topV (tile 0 A)) = b
  simp only [k0_pay154, scaleV, flatV]
theorem row1 : k0_pay166 k0_pay145 (k0_pay163 (k0_pay157 A) (k0_pay158 A) (k0_pay159 A) (k0_pay160 A)) = rowV (tile 1 A) := by
  unfold k0_pay163 k0_pay162
  rw [bits1]
  unfold rowV diagV
  generalize bitsV (topV (tile 1 A)) = b
  simp only [k0_pay166, scaleV, flatV]
theorem row2 : k0_pay177 k0_pay145 (k0_pay173 (k0_pay169 A) (k0_pay170 A) 67108864#32) = rowV (tile 2 A) := by
  unfold k0_pay173 k0_pay172
  rw [bits2]
  unfold rowV diagV
  generalize bitsV (topV (tile 2 A)) = b
  simp only [k0_pay177, scaleV, flatV]
theorem diag3 : k0_pay187 k0_pay145 (k0_pay180 A) (k0_pay181 A) (k0_pay182 A) (k0_pay183 A) = diagV (tile 3 A) := by
  unfold k0_pay187 k0_pay185
  rw [bits3]
  unfold diagV
  generalize bitsV (topV (tile 3 A)) = b
  simp only [scaleV, flatV]

theorem four_rows (a0 a1 a2 a3 : FVec Ideal S1x128 .f32) (g : Fin 4) (l : Fin 128) :
    shapeCast S1x4x128 (concatenate S4x128 0 [⟨S1x128, a0⟩, ⟨S1x128, a1⟩, ⟨S1x128, a2⟩, ⟨S1x128, a3⟩] concatenates_S1x128_S1x128_S1x128_S1x128_S4x128_d0) shapeCasts_S4x128_S1x4x128 (ix3 0 g l)
      = (![a0, a1, a2, a3] : Fin 4 → FVec Ideal S1x128 .f32) g (ix2 0 l) := by
  pointwise []
  fin_cases g <;> rfl

theorem rows_apply (g : Fin 4) (l : Fin 128) :
    k0_pay1 (rowV (tile 0 A)) (rowV (tile 1 A)) (rowV (tile 2 A)) (diagV (tile 3 A)) (ix3 0 g l) = rowV (tile g A) (ix2 0 l) := by
  have h3 : k0_pay1 (rowV (tile 0 A)) (rowV (tile 1 A)) (rowV (tile 2 A)) (diagV (tile 3 A)) = shapeCast S1x4x128 (concatenate S4x128 0 [⟨S1x128, rowV (tile 0 A)⟩, ⟨S1x128, rowV (tile 1 A)⟩, ⟨S1x128, rowV (tile 2 A)⟩, ⟨S1x128, rowV (tile 3 A)⟩] concatenates_S1x128_S1x128_S1x128_S1x128_S4x128_d0) shapeCasts_S4x128_S1x4x128 := rfl
  rw [h3, four_rows]
  fin_cases g <;> rfl

/-! ## The three outputs of a grid point -/

/-- The outputs: the accumulator rounded (which is nothing over the extended reals). -/
def yOut : Vec Ideal S128x512 .bf16 := fun y => A y

/-- The codes: each output over its group's scale, held between −448 and 448. -/
def codesOut : Vec Ideal S128x512 .fp8e4m3 := fun y => clamp (A y * kinv (top fun x => A (ix2 (y 0) ⟨128 * ((y 1).val / 128) + x.val, by
  have h1 : (y 1).val < 512 := (y 1).isLt
  omega⟩)))

/-- The scales: of each group and row. -/
def scalesOut : Vec Ideal S1x4x128 .f32 := fun y => kscale (top fun x => A (ix2 (y 2) ⟨128 * (y 1).val + x.val, by
  have h1 : (y 1).val < 4 := (y 1).isLt
  omega⟩))

/-- Four tiles of 128 columns stored over a block of 512. -/
theorem read_tiles {η : EltTy} (v : View sig .tc .vmem S128x512 η) (f : v.ty.Contents (Elt Ideal)) (w0 w1 w2 w3 : Vec Ideal S128x128 η) (S : Vec Ideal S128x512 η)
    (h : ∀ (g : Fin 4) (r l : Fin 128), (![w0, w1, w2, w3] : Fin 4 → Vec Ideal S128x128 η) g (ix2 r l) = S (ix2 r ⟨128 * g.val + l.val, by omega⟩)) :
    v.read (Elt Ideal) (v.writes (Elt Ideal) f [⟨Rect.unit ![0, 384] S128x128.size inb_S128x512_S128x128_0_384, w3⟩, ⟨Rect.unit ![0, 256] S128x128.size inb_S128x512_S128x128_0_256, w2⟩,
      ⟨Rect.unit ![0, 128] S128x128.size inb_S128x512_S128x128_0_128, w1⟩, ⟨Rect.unit ![0, 0] S128x128.size inb_S128x512_S128x128_0_0, w0⟩]) = S := by
  refine funext fun y => ?_
  obtain ⟨r, j, rfl⟩ : ∃ r j, y = ix2 r j := ⟨_, _, eq_ix2 y⟩
  obtain ⟨g, l, hj⟩ : ∃ (g : Fin 4) (l : Fin 128), j.val = 128 * g.val + l.val := ⟨⟨j.val / 128, by omega⟩, ⟨j.val % 128, by omega⟩, by simp only; omega⟩
  have hS : S (ix2 r j) = S (ix2 r ⟨128 * g.val + l.val, by omega⟩) := congrArg (fun z => S (ix2 r z)) (Fin.ext hj)
  rw [hS, ← h g r l]
  match g, hj with
  | 3, hj =>
    exact View.read_writes_cons_unit_of_mem v f _ _ _ (ix2 r j) (ix2 r l) rfl (by
      intro a
      fin_cases a
      · exact (Nat.zero_add _).symm
      · exact hj)
  | 2, hj =>
    refine (View.read_writes_cons_unit_of_not_mem v f _ _ _ (ix2 r j) rfl 1 (.inl (by show j.val < 384; have := l.isLt; simp at hj; omega))).trans ?_
    exact View.read_writes_cons_unit_of_mem v f _ _ _ (ix2 r j) (ix2 r l) rfl (by
      intro a
      fin_cases a
      · exact (Nat.zero_add _).symm
      · exact hj)
  | 1, hj =>
    refine (View.read_writes_cons_unit_of_not_mem v f _ _ _ (ix2 r j) rfl 1 (.inl (by show j.val < 384; have := l.isLt; simp at hj; omega))).trans ?_
    refine (View.read_writes_cons_unit_of_not_mem v f _ _ _ (ix2 r j) rfl 1 (.inl (by show j.val < 256; have := l.isLt; simp at hj; omega))).trans ?_
    exact View.read_writes_cons_unit_of_mem v f _ _ _ (ix2 r j) (ix2 r l) rfl (by
      intro a
      fin_cases a
      · exact (Nat.zero_add _).symm
      · exact hj)
  | 0, hj =>
    refine (View.read_writes_cons_unit_of_not_mem v f _ _ _ (ix2 r j) rfl 1 (.inl (by show j.val < 384; have := l.isLt; simp at hj; omega))).trans ?_
    refine (View.read_writes_cons_unit_of_not_mem v f _ _ _ (ix2 r j) rfl 1 (.inl (by show j.val < 256; have := l.isLt; simp at hj; omega))).trans ?_
    refine (View.read_writes_cons_unit_of_not_mem v f _ _ _ (ix2 r j) rfl 1 (.inl (by show j.val < 128; have := l.isLt; simp at hj; omega))).trans ?_
    exact View.read_writes_cons_unit_of_mem v f _ _ _ (ix2 r j) (ix2 r l) rfl (by
      intro a
      fin_cases a
      · exact (Nat.zero_add _).symm
      · exact hj)

variable (B : Vec Ideal S128x512 .f32) (hB : A = B)
include hB

theorem read_y (v : View sig .tc .vmem S128x512 .bf16) (f : v.ty.Contents (Elt Ideal)) :
    v.read (Elt Ideal) (v.writes (Elt Ideal) f [⟨Rect.unit ![0, 384] S128x128.size inb_S128x512_S128x128_0_384, k0_pay178 A⟩, ⟨Rect.unit ![0, 256] S128x128.size inb_S128x512_S128x128_0_256, k0_pay167 A⟩,
      ⟨Rect.unit ![0, 128] S128x128.size inb_S128x512_S128x128_0_128, k0_pay155 A⟩, ⟨Rect.unit ![0, 0] S128x128.size inb_S128x512_S128x128_0_0, k0_pay146 A⟩]) = yOut B := by
  subst hB
  refine read_tiles v f _ _ _ _ (yOut A) fun g r l => ?_
  fin_cases g
  · exact congrFun (y0 A) (ix2 r l)
  · exact congrFun (y1 A) (ix2 r l)
  · exact congrFun (y2 A) (ix2 r l)
  · exact congrFun (y3 A) (ix2 r l)

omit hB in
theorem codes_at (g : Fin 4) (r l : Fin 128) : codesV (tile g A) (ix2 r l) = codesOut A (ix2 r ⟨128 * g.val + l.val, by omega⟩) := by
  rw [codesV_apply]
  unfold codesOut
  have e : (128 * g.val + l.val) / 128 = g.val := by omega
  simp only [ix2_0, ix2_1, e]
  rfl

theorem read_codes (v : View sig .tc .vmem S128x512 .fp8e4m3) (f : v.ty.Contents (Elt Ideal)) (a1 a9 a22 a25 a15 a26 a29 : FVec Ideal S128x128 .f32) (a4 a27 a28 : IVec S128x128 32) (a5 : IVec S128x128 1)
    (h1 : a1 = k0_pay147 A) (h4 : a4 = k0_pay150 (k0_pay148 A) (k0_pay149 A) 536870912#32) (h5 : a5 = k0_pay151 (k0_pay148 A) (k0_pay149 A) 536870912#32)
    (h9 : a9 = k0_pay156 A) (h15 : a15 = k0_pay164 (k0_pay157 A) (k0_pay158 A) (k0_pay159 A) (k0_pay160 A))
    (h22 : a22 = k0_pay174 (k0_pay168 A) (k0_pay169 A) (k0_pay170 A) 67108864#32)
    (h25 : a25 = k0_pay179 A) (h26 : a26 = k0_pay180 A) (h27 : a27 = k0_pay181 A) (h28 : a28 = k0_pay182 A) (h29 : a29 = k0_pay183 A) :
    v.read (Elt Ideal) (v.writes (Elt Ideal) f [⟨Rect.unit ![0, 384] S128x128.size inb_S128x512_S128x128_0_384, k0_pay186 a25 a26 a27 a28 a29⟩,
      ⟨Rect.unit ![0, 256] S128x128.size inb_S128x512_S128x128_0_256, k0_pay176 a22 k0_pay175⟩,
      ⟨Rect.unit ![0, 128] S128x128.size inb_S128x512_S128x128_0_128, k0_pay165 a9 a15⟩,
      ⟨Rect.unit ![0, 0] S128x128.size inb_S128x512_S128x128_0_0, k0_pay153 a1 a4 a5⟩]) = codesOut B := by
  subst hB h1 h4 h5 h9 h15 h22 h25 h26 h27 h28 h29
  rw [codes0, codes1, codes2, codes3]
  refine read_tiles v f _ _ _ _ (codesOut A) fun g r l => ?_
  rw [← codes_at]
  fin_cases g <;> rfl

theorem read_scales (v : View sig .tc .vmem S1x4x128 .f32) (f : v.ty.Contents (Elt Ideal)) (a7 a16 a23 : FVec Ideal S1x128 .f32) (a30 : FVec Ideal S128x128 .f32)
    (h7 : a7 = k0_pay154 k0_pay145 (k0_pay152 (k0_pay148 A) (k0_pay149 A) 536870912#32))
    (h16 : a16 = k0_pay166 k0_pay145 (k0_pay163 (k0_pay157 A) (k0_pay158 A) (k0_pay159 A) (k0_pay160 A)))
    (h23 : a23 = k0_pay177 k0_pay145 (k0_pay173 (k0_pay169 A) (k0_pay170 A) 67108864#32))
    (h30 : a30 = k0_pay187 k0_pay145 (k0_pay180 A) (k0_pay181 A) (k0_pay182 A) (k0_pay183 A)) :
    v.read (Elt Ideal) (v.writes (Elt Ideal) f [⟨Rect.unit ![0, 0, 0] ![1, 4, 128] inb_S1x4x128_S1x4x128_0_0_0, k0_pay1 a7 a16 a23 a30⟩]) = scalesOut B := by
  subst hB h7 h16 h23 h30
  rw [row0, row1, row2, diag3]
  refine funext fun y => ?_
  obtain ⟨z, g, l, rfl⟩ : ∃ z g l, y = ix3 z g l := ⟨_, _, _, eq_ix3 y⟩
  obtain rfl : z = 0 := Subsingleton.elim _ _
  refine (View.read_writes_cons_unit_of_mem v f _ _ _ (ix3 0 g l) (ix3 0 g l) rfl (fun a => (by fin_cases a <;> exact (Nat.zero_add _).symm))).trans ?_
  refine (rows_apply A g l).trans ?_
  rw [rowV_apply]
  rfl

end Cert.KernelIdeal.Epilogue
-- ==== Proof.ValueRunA.lean ====
/- What the kernel body computes at the first grid point. -/
module

public import proofs.«01_k».proof.Proof.KernelIdealRuns
public import proofs.«01_k».proof.Proof.BlockAcc
public import proofs.«01_k».proof.Proof.Epilogue

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Epilogue

local notation "𝕄" => MT nD τ sig Unit (Elt Ideal) ℕ (UR sig nD τ) ℕ

variable (m : (ℓ : Loc nD τ sig) → Buf (Elt Ideal) ℓ) (ρ : Dev nD → PrngReg)

set_option maxHeartbeats 2000000 in
/-- The kernel body at the first grid point: from the staged inputs it leaves the outputs, the codes and the scales of its 512 columns, and the activation
    in the kernel's order in the scratch that later points read. -/
theorem valueRun0_A (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x2x128 .bf16) (harg14 : arg14.IsWhole) (arg15 : Memref sig .tc .vmem S128x512 .f32) (harg15 : arg15.IsWhole) (hc0 : cond0_0 i)
    (x0 : Vec Ideal S128x14336 .bf16) (x1 : Vec Ideal S56x2x64x512 .i8) (x2 : Vec Ideal S56x2x32x512 .i8) (x3 : Vec Ideal S56x16x128 .i8) (x4 : Vec Ideal S56x16x128 .i8) (x5 : Vec Ideal S56x16x128 .i8) (x6 : Vec Ideal S56x16x128 .i8) (x7 : Vec Ideal S56x512 .f16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (yOut (accOf (ordered x0) x1 x2 x3 x4 x5 x6 x7)) ∗ owns (c : Thread nD τ) arg10 fullShare (codesOut (accOf (ordered x0) x1 x2 x3 x4 x5 x6 x7)) ∗ owns (c : Thread nD τ) arg11 fullShare (scalesOut (accOf (ordered x0) x1 x2 x3 x4 x5 x6 x7)) ∗ owns (c : Thread nD τ) arg12 fullShare (ordered x0) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := Ideal)) Variants.none c none) E (cc0_q6k_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  · skip
    simp only [cc0_q6k_linear_eq_skeleton]; unfold cc0_q6k_linear_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    have hx : arg12.view.read (Elt Ideal) (arg12.view.writes (Elt Ideal) fs0 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) k0_t1_loop.trips)) = ordered x0 := (loopX c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) fs0).trans (congrArg ordered (harg1.read_unread x0))
    have hB : _ = accOf (ordered x0) x1 x2 x3 x4 x5 x6 x7 := (acc_load c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 (arg12.view.writes (Elt Ideal) fs0 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) k0_t1_loop.trips)) fs1 arg13.view.junk fs2).trans (congrArg (fun x => accOf x x1 x2 x3 x4 x5 x6 x7) hx)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro; exact read_y _ _ hB _ _
    isplitl [H9]
    · iexists _; isplitr; swap; · iexact H9
      ipureintro; exact read_codes _ _ hB _ _ _ _ _ _ _ _ _ _ _ _ _ rfl rfl rfl rfl rfl rfl rfl rfl rfl rfl rfl
    isplitl [H10]
    · iexists _; isplitr; swap; · iexact H10
      ipureintro; exact read_scales _ _ hB _ _ _ _ _ _ rfl rfl rfl rfl
    isplitl [HS0]
    · iexists _; isplitr; swap; · iexact HS0
      ipureintro; exact hx
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.ValueRunB.lean ====
/- What the kernel body computes at a later grid point. -/
module

public import proofs.«01_k».proof.Proof.KernelIdealRuns
public import proofs.«01_k».proof.Proof.BlockAcc
public import proofs.«01_k».proof.Proof.Epilogue

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Epilogue

local notation "𝕄" => MT nD τ sig Unit (Elt Ideal) ℕ (UR sig nD τ) ℕ

variable (m : (ℓ : Loc nD τ sig) → Buf (Elt Ideal) ℓ) (ρ : Dev nD → PrngReg)

set_option maxHeartbeats 2000000 in
/-- The kernel body at a later grid point: from the staged inputs and the activation in the kernel's order it leaves the outputs, the codes and the scales of
    its 512 columns, the activation unchanged. -/
theorem valueRun0_B (c : Dev nD) (i : grid0.Coords) (arg1 : Memref sig .tc .vmem S128x14336 .bf16) (harg1 : arg1.IsWhole) (arg2 : Memref sig .tc .vmem S56x2x64x512 .i8) (harg2 : arg2.IsWhole) (arg3 : Memref sig .tc .vmem S56x2x32x512 .i8) (harg3 : arg3.IsWhole) (arg4 : Memref sig .tc .vmem S56x16x128 .i8) (harg4 : arg4.IsWhole) (arg5 : Memref sig .tc .vmem S56x16x128 .i8) (harg5 : arg5.IsWhole) (arg6 : Memref sig .tc .vmem S56x16x128 .i8) (harg6 : arg6.IsWhole) (arg7 : Memref sig .tc .vmem S56x16x128 .i8) (harg7 : arg7.IsWhole) (arg8 : Memref sig .tc .vmem S56x512 .f16) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S1x4x128 .f32) (harg11 : arg11.IsWhole) (arg12 : Memref sig .tc .vmem S56x128x256 .bf16) (harg12 : arg12.IsWhole) (arg13 : Memref sig .tc .vmem S4x56x128 .f32) (harg13 : arg13.IsWhole) (arg14 : Memref sig .tc .vmem S4x448x2x128 .bf16) (harg14 : arg14.IsWhole) (arg15 : Memref sig .tc .vmem S128x512 .f32) (harg15 : arg15.IsWhole) (hc0 : ¬cond0_0 i)
    (x0 : Vec Ideal S128x14336 .bf16) (x1 : Vec Ideal S56x2x64x512 .i8) (x2 : Vec Ideal S56x2x32x512 .i8) (x3 : Vec Ideal S56x16x128 .i8) (x4 : Vec Ideal S56x16x128 .i8) (x5 : Vec Ideal S56x16x128 .i8) (x6 : Vec Ideal S56x16x128 .i8) (x7 : Vec Ideal S56x512 .f16) (xs : Vec Ideal S56x128x256 .bf16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (yOut (accOf xs x1 x2 x3 x4 x5 x6 x7)) ∗ owns (c : Thread nD τ) arg10 fullShare (codesOut (accOf xs x1 x2 x3 x4 x5 x6 x7)) ∗ owns (c : Thread nD τ) arg11 fullShare (scalesOut (accOf xs x1 x2 x3 x4 x5 x6 x7)) ∗ owns (c : Thread nD τ) arg12 fullShare xs ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := Ideal)) Variants.none c none) E (cc0_q6k_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  · skip
    simp only [cc0_q6k_linear_eq_skeleton]; unfold cc0_q6k_linear_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    have hx : arg12.view.read (Elt Ideal) fs0 = xs := hs0
    have hB : _ = accOf xs x1 x2 x3 x4 x5 x6 x7 := (acc_load c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 fs0 fs1 arg13.view.junk fs2).trans (congrArg (fun x => accOf x x1 x2 x3 x4 x5 x6 x7) hx)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro; exact read_y _ _ hB _ _
    isplitl [H9]
    · iexists _; isplitr; swap; · iexact H9
      ipureintro; exact read_codes _ _ hB _ _ _ _ _ _ _ _ _ _ _ _ _ rfl rfl rfl rfl rfl rfl rfl rfl rfl rfl rfl
    isplitl [H10]
    · iexists _; isplitr; swap; · iexact H10
      ipureintro; exact read_scales _ _ hB _ _ _ _ _ _ rfl rfl rfl rfl
    isplitl [HS0]
    · iexists _; isplitr; swap; · iexact HS0
      ipureintro; exact hx
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.ValueFrame.lean ====
/- The run of the kernel over the extended reals, its three outputs named at every grid point. -/
module

public import proofs.«01_k».proof.Proof.ValueRunA
public import proofs.«01_k».proof.Proof.ValueRunB

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Body Cert.KernelIdeal.Epilogue

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The first grid point. -/
def p0 : Fin cfg0.N := ⟨0, by decide⟩

/-- The activation in the kernel's order: what the scratch holds after the first point. -/
def xs (c : Dev nD) : Vec Ideal S56x128x256 .bf16 := ordered (iblk m c 0 p0)

/-- The accumulator of point `t`. -/
def accAt (c : Dev nD) (t : Fin cfg0.N) : Vec Ideal S128x512 .f32 :=
  accOf (xs m c) (iblk m c 1 t) (iblk m c 2 t) (iblk m c 3 t) (iblk m c 4 t) (iblk m c 5 t) (iblk m c 6 t) (iblk m c 7 t)

/-- The invariant: before the first point every scratch buffer holds something; before a later one the carried scratch holds the activation. -/
def PhiV (c : Dev nD) (n : ℕ) : sProp 𝕄 :=
  if n = 0 then Pipeline.ΦA spec0 c
  else iprop(iprop(owns (c : Thread nD τ) scM0_0 fullShare (xs m c) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiV_zero (c : Dev nD) (n : ℕ) (h : n = 0) : PhiV m c n = Pipeline.ΦA spec0 c := if_pos h
theorem PhiV_pos (c : Dev nD) (n : ℕ) (h : n ≠ 0) : PhiV m c n
    = iprop(iprop(owns (c : Thread nD τ) scM0_0 fullShare (xs m c) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := if_neg h

/-- The proof data of the one pipeline on core `c`: the arrays as the region finds them; after the body at point `t` each
    input's buffer at its block and the outputs at what the point computes; nothing owed; each input's share of its array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yOut (accAt m c t)
    | ⟨9, _⟩ => codesOut (accAt m c t)
    | ⟨10, _⟩ => scalesOut (accAt m c t)
  Φ t := PhiV m c t.val
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yOut (accAt m c t) := by dsimp only [dats]
theorem after0_9 (c : Dev nD) (t : Fin cfg0.N) : (dats m 0 c).after 9 t = codesOut (accAt m c t) := by dsimp only [dats]
theorem after0_10 (c : Dev nD) (t : Fin cfg0.N) : (dats m 0 c).after 10 t = scalesOut (accAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: from the inputs' blocks, and after the first point the activation in the carried scratch, it leaves the outputs
    that the proof data name. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiV m c (t.val + 1) from rfl, show (dats m 0 c).Φ t.castSucc = PhiV m c t.val from rfl, PhiV_pos m c _ (Nat.succ_ne_zero _)]
  have ht : t.val < 10 := Nat.lt_of_lt_of_eq t.isLt N_0
  by_cases h0 : t.val % 10 = 0
  · rw [PhiV_zero m c _ (by omega), PhiA0_eq]
    obtain rfl : t = p0 := Fin.ext (show t.val = 0 by omega)
    unfold accAt xs
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((valueRun0_A c (grid0.coords p0) _ _ _ _ _ _ _ _ _ _ _ _ _ _ _ _ _ _ _ _ _ _ _ _ _ _ _ _ _ _ ((hcond0_0 p0).mpr h0) (iblk m c 0 p0) (iblk m c 1 p0) (iblk m c 2 p0) (iblk m c 3 p0) (iblk m c 4 p0) (iblk m c 5 p0) (iblk m c 6 p0) (iblk m c 7 p0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiV_pos m c _ (by omega)]
    unfold accAt
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((valueRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (xs m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

-- the launch theorem's implicit arguments are found by unifying its conclusion with this one, which takes unfolding plain
-- definitions in a metavariable's type
set_option backward.isDefEq.respectTransparency.types false in
set_option maxHeartbeats 800000 in
/-- The launch: every run of @main ends with every array of the pipeline at what the proof data say, and every other buffer at what
    the lines after the region leave. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track_shared cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := fun c => by
      rw [show (dats m 0 c).Φ 0 = PhiV m c 0 from rfl, PhiV_zero m c 0 rfl]) (hout := fun c => by
      rw [show (dats m 0 c).Φ (Fin.last cfg0.N) = PhiV m c cfg0.N from rfl, PhiV_pos m c _ (by decide), PhiA0_eq]
      iintro ⟨⟨HS0, HS1, HS2, HS3⟩, Hg⟩
      isplitl [HS0 HS1 HS2 HS3]
      · isplitl [HS0]; · iexists _; iexact HS0
        isplitl [HS1]; · iexact HS1
        isplitl [HS2]; · iexact HS2
        iexact HS3
      iexact Hg)

end Cert.KernelIdeal.Value

end
-- ==== Proof.ArraysIn.lean ====
/- The kernel's blocks, read off the arguments. -/
module

public import proofs.«01_k».proof.Proof.ValueFrame
public import Idealize.ShloMosaic.Lib.StableHlo.ReadAt

@[expose] public section

set_option maxRecDepth 16384

noncomputable section

namespace Cert.KernelIdeal.Value

open Idealize.ShloMosaic Idealize.ShloMosaic.TcCoe Cert.KernelIdeal.Gen Cert.KernelIdeal.Body

variable (m : (ℓ : Loc nD τ sig) → Buf (Elt Ideal) ℓ) (c : Dev nD) (t : Fin cfg0.N)

/-! ## The arrays when the kernel is entered -/

theorem V_x (r : Fin 128) (k : Fin 14336) : V m c main_v4 (ix2 r k) = m ((c : Thread nD τ).loc main_arg0) (ix3 0 r k) := by
  show StableHlo.after hostOps0 _ (Proc.devRef .tc main_v4) _ = _
  after_reads_at

theorem V_ql (n : Fin 56) (h : Fin 2) (b : Fin 64) (J : Fin 5120) :
    V m c main_v0 (ix4 n h b J) = m ((c : Thread nD τ).loc main_arg1) (ix4 J n h b) := by
  show StableHlo.after hostOps0 _ (Proc.devRef .tc main_v0) _ = _
  after_reads_at

theorem V_qh (n : Fin 56) (h : Fin 2) (b : Fin 32) (J : Fin 5120) :
    V m c main_v1 (ix4 n h b J) = m ((c : Thread nD τ).loc main_arg2) (ix4 J n h b) := by
  show StableHlo.after hostOps0 _ (Proc.devRef .tc main_v1) _ = _
  after_reads_at

theorem V_sc (n : Fin 56) (s : Fin 16) (J : Fin 5120) :
    V m c main_v2 (ix3 n s J) = m ((c : Thread nD τ).loc main_arg3) (ix3 J n s) := by
  show StableHlo.after hostOps0 _ (Proc.devRef .tc main_v2) _ = _
  after_reads_at

theorem V_d (n : Fin 56) (J : Fin 5120) :
    V m c main_v3 (ix2 n J) = m ((c : Thread nD τ).loc main_arg4) (ix2 J n) := by
  show StableHlo.after hostOps0 _ (Proc.devRef .tc main_v3) _ = _
  after_reads_at

/-! ## The blocks of a point -/

theorem point_lt : t.val < 10 := Nat.lt_of_lt_of_eq t.isLt N_0

theorem index0 : ∀ t : Fin cfg0.N, win0_0.index t = ![0, 0] := (by decide +kernel : ∀ t : Fin grid0.N, _)
theorem index1 : ∀ t : Fin cfg0.N, win0_1.index t = ![0, 0, 0, t.val] := (by decide +kernel : ∀ t : Fin grid0.N, _)
theorem index2 : ∀ t : Fin cfg0.N, win0_2.index t = ![0, 0, 0, t.val] := (by decide +kernel : ∀ t : Fin grid0.N, _)
theorem index3 : ∀ t : Fin cfg0.N, win0_3.index t = ![0, 0, 4 * t.val] := (by decide +kernel : ∀ t : Fin grid0.N, _)
theorem index4 : ∀ t : Fin cfg0.N, win0_4.index t = ![0, 0, 4 * t.val + 1] := (by decide +kernel : ∀ t : Fin grid0.N, _)
theorem index5 : ∀ t : Fin cfg0.N, win0_5.index t = ![0, 0, 4 * t.val + 2] := (by decide +kernel : ∀ t : Fin grid0.N, _)
theorem index6 : ∀ t : Fin cfg0.N, win0_6.index t = ![0, 0, 4 * t.val + 3] := (by decide +kernel : ∀ t : Fin grid0.N, _)
theorem index7 : ∀ t : Fin cfg0.N, win0_7.index t = ![0, t.val] := (by decide +kernel : ∀ t : Fin grid0.N, _)
theorem index8 : ∀ t : Fin cfg0.N, win0_8.index t = ![0, t.val] := (by decide +kernel : ∀ t : Fin grid0.N, _)
theorem index9 : ∀ t : Fin cfg0.N, win0_9.index t = ![0, t.val] := (by decide +kernel : ∀ t : Fin grid0.N, _)
theorem index10 : ∀ t : Fin cfg0.N, win0_10.index t = ![t.val, 0, 0] := (by decide +kernel : ∀ t : Fin grid0.N, _)

/-- Column `j` of point `t`'s block is column `512 t + j` of the array. -/
def col (j : Fin 512) : Fin 5120 := ⟨512 * t.val + j.val, by have := point_lt t; omega⟩

/-- Column `l` of the slab `g` of point `t`'s block is column `512 t + 128 g + l` of the array. -/
def slabCol (g : Fin 4) (l : Fin 128) : Fin 5120 := ⟨512 * t.val + 128 * g.val + l.val, by have := point_lt t; omega⟩

theorem blk_x (r : Fin 128) (k : Fin 14336) : iblk m c 0 t (ix2 r k) = m ((c : Thread nD τ).loc main_arg0) (ix3 0 r k) := by
  refine Eq.trans ?_ (V_x m c r k)
  unfold iblk
  rw [View.read_apply]
  show V m c main_v4 _ = V m c main_v4 _
  refine congrArg (V m c main_v4) (funext fun a => Fin.ext ?_)
  have e := index0 t
  match a with
  | ⟨0, _⟩ => show win0_0.index t 0 * 128 + 1 * r.val = r.val; rw [e]; show 0 * 128 + 1 * r.val = r.val; omega
  | ⟨1, _⟩ => show win0_0.index t 1 * 14336 + 1 * k.val = k.val; rw [e]; show 0 * 14336 + 1 * k.val = k.val; omega

theorem blk_ql (n : Fin 56) (h : Fin 2) (b : Fin 64) (j : Fin 512) :
    iblk m c 1 t (ix4 n h b j) = m ((c : Thread nD τ).loc main_arg1) (ix4 (col t j) n h b) := by
  refine Eq.trans ?_ (V_ql m c n h b (col t j))
  unfold iblk
  rw [View.read_apply]
  show V m c main_v0 _ = V m c main_v0 _
  refine congrArg (V m c main_v0) (funext fun a => Fin.ext ?_)
  have e := index1 t
  match a with
  | ⟨0, _⟩ => show win0_1.index t 0 * 56 + 1 * n.val = n.val; rw [e]; show 0 * 56 + 1 * n.val = n.val; omega
  | ⟨1, _⟩ => show win0_1.index t 1 * 2 + 1 * h.val = h.val; rw [e]; show 0 * 2 + 1 * h.val = h.val; omega
  | ⟨2, _⟩ => show win0_1.index t 2 * 64 + 1 * b.val = b.val; rw [e]; show 0 * 64 + 1 * b.val = b.val; omega
  | ⟨3, _⟩ => show win0_1.index t 3 * 512 + 1 * j.val = 512 * t.val + j.val; rw [e]; show t.val * 512 + 1 * j.val = 512 * t.val + j.val; omega

theorem blk_qh (n : Fin 56) (h : Fin 2) (b : Fin 32) (j : Fin 512) :
    iblk m c 2 t (ix4 n h b j) = m ((c : Thread nD τ).loc main_arg2) (ix4 (col t j) n h b) := by
  refine Eq.trans ?_ (V_qh m c n h b (col t j))
  unfold iblk
  rw [View.read_apply]
  show V m c main_v1 _ = V m c main_v1 _
  refine congrArg (V m c main_v1) (funext fun a => Fin.ext ?_)
  have e := index2 t
  match a with
  | ⟨0, _⟩ => show win0_2.index t 0 * 56 + 1 * n.val = n.val; rw [e]; show 0 * 56 + 1 * n.val = n.val; omega
  | ⟨1, _⟩ => show win0_2.index t 1 * 2 + 1 * h.val = h.val; rw [e]; show 0 * 2 + 1 * h.val = h.val; omega
  | ⟨2, _⟩ => show win0_2.index t 2 * 32 + 1 * b.val = b.val; rw [e]; show 0 * 32 + 1 * b.val = b.val; omega
  | ⟨3, _⟩ => show win0_2.index t 3 * 512 + 1 * j.val = 512 * t.val + j.val; rw [e]; show t.val * 512 + 1 * j.val = 512 * t.val + j.val; omega

theorem blk_d (n : Fin 56) (j : Fin 512) :
    iblk m c 7 t (ix2 n j) = m ((c : Thread nD τ).loc main_arg4) (ix2 (col t j) n) := by
  refine Eq.trans ?_ (V_d m c n (col t j))
  unfold iblk
  rw [View.read_apply]
  show V m c main_v3 _ = V m c main_v3 _
  refine congrArg (V m c main_v3) (funext fun a => Fin.ext ?_)
  have e := index7 t
  match a with
  | ⟨0, _⟩ => show win0_7.index t 0 * 56 + 1 * n.val = n.val; rw [e]; show 0 * 56 + 1 * n.val = n.val; omega
  | ⟨1, _⟩ => show win0_7.index t 1 * 512 + 1 * j.val = 512 * t.val + j.val; rw [e]; show t.val * 512 + 1 * j.val = 512 * t.val + j.val; omega

/-- The four windows over the sub-blocks' scales differ in their slab alone. -/
theorem sc_at (g : Fin 4) (e : Fin 3 → ℕ) (he : e = ![0, 0, 4 * t.val + g.val]) (n : Fin 56) (s : Fin 16) (l : Fin 128) (y : S56x16x5120.Idx)
    (h0 : (y 0).val = e 0 * 56 + 1 * n.val) (h1 : (y 1).val = e 1 * 16 + 1 * s.val) (h2 : (y 2).val = e 2 * 128 + 1 * l.val) :
    V m c main_v2 y = m ((c : Thread nD τ).loc main_arg3) (ix3 (slabCol t g l) n s) := by
  subst he
  refine Eq.trans ?_ (V_sc m c n s (slabCol t g l))
  refine congrArg (V m c main_v2) (funext fun a => Fin.ext ?_)
  match a with
  | ⟨0, _⟩ => refine h0.trans ?_; show 0 * 56 + 1 * n.val = n.val; omega
  | ⟨1, _⟩ => refine h1.trans ?_; show 0 * 16 + 1 * s.val = s.val; omega
  | ⟨2, _⟩ => refine h2.trans ?_; show (4 * t.val + g.val) * 128 + 1 * l.val = 512 * t.val + 128 * g.val + l.val; omega

theorem blk_sc (g : Fin 4) (n : Fin 56) (s : Fin 16) (l : Fin 128) :
    (![iblk m c 3 t, iblk m c 4 t, iblk m c 5 t, iblk m c 6 t] : Fin 4 → Vec Ideal S56x16x128 .i8) g (ix3 n s l)
      = m ((c : Thread nD τ).loc main_arg3) (ix3 (slabCol t g l) n s) := by
  match g with
  | 0 =>
    show iblk m c 3 t (ix3 n s l) = _
    unfold iblk
    rw [View.read_apply]
    exact sc_at m c t 0 _ (index3 t) n s l _ rfl rfl rfl
  | 1 =>
    show iblk m c 4 t (ix3 n s l) = _
    unfold iblk
    rw [View.read_apply]
    exact sc_at m c t 1 _ (index4 t) n s l _ rfl rfl rfl
  | 2 =>
    show iblk m c 5 t (ix3 n s l) = _
    unfold iblk
    rw [View.read_apply]
    exact sc_at m c t 2 _ (index5 t) n s l _ rfl rfl rfl
  | 3 =>
    show iblk m c 6 t (ix3 n s l) = _
    unfold iblk
    rw [View.read_apply]
    exact sc_at m c t 3 _ (index6 t) n s l _ rfl rfl rfl

end Cert.KernelIdeal.Value

end
-- ==== Proof.Linear.lean ====
/- The layer's mathematics, element by element: the weights that the bytes stand for, the outputs, their scales and their codes. -/
module

public import proofs.«01_k».proof.Proof.Epilogue

@[expose] public section

set_option maxRecDepth 16384

noncomputable section

namespace Cert.Linear

open Idealize.ShloMosaic Cert.KernelIdeal Cert.KernelIdeal.Body Cert.Scale

variable (x : Vec Ideal S1x128x14336 .bf16) (ql : Vec Ideal S5120x56x2x64 .i8) (qh : Vec Ideal S5120x56x2x32 .i8)
  (sc : Vec Ideal S5120x56x16 .i8) (d : Vec Ideal S5120x56 .f16)

/-- The six-bit code of column `k` of row `J`: super-block `k / 256`, half `k % 256 / 128`, plane `k % 128 / 32`, element `k % 32`. -/
def code (J : Fin 5120) (k : Fin 14336) : ℕ :=
  nib (ql (ix4 J ⟨k.val / 256, by omega⟩ ⟨k.val % 256 / 128, by omega⟩ ⟨32 * (k.val % 64 / 32) + k.val % 32, by omega⟩)) (k.val % 128 / 64)
    + 16 * crumb (qh (ix4 J ⟨k.val / 256, by omega⟩ ⟨k.val % 256 / 128, by omega⟩ ⟨k.val % 32, by omega⟩)) (k.val % 128 / 32)

/-- The scale of column `k` of row `J`: the super-block's times the sub-block's. -/
def scaleOf (J : Fin 5120) (k : Fin 14336) : EReal :=
  d (ix2 J ⟨k.val / 256, by omega⟩) * (((sc (ix3 J ⟨k.val / 256, by omega⟩ ⟨k.val % 256 / 16, by omega⟩)).toInt : ℝ) : EReal)

/-- The layer: each output the sum of the activation's products with the row's weights. -/
def outputs : Vec Ideal S128x5120 .bf16 := fun y =>
  ∑ k : Fin 14336, x (ix3 0 (y 0) k) * (((((code ql qh (y 1) k : ℤ) - 32 : ℤ) : ℝ) : EReal) * scaleOf sc d (y 1) k)

variable (Y : Vec Ideal S128x5120 .bf16)

/-- The threshold of group `g` of row `r`. -/
def topOf (r : Fin 128) (g : Fin 40) : EReal := top fun l => Y (ix2 r ⟨128 * g.val + l.val, by omega⟩)

/-- The scales of the outputs' groups. -/
def groupScales : Vec Ideal S1x128x40 .f32 := fun y => rscale (topOf Y (y 1) (y 2))

/-- The codes of the outputs. -/
def groupCodes : Vec Ideal S1x128x5120 .fp8e4m3 := fun y =>
  clamp (Y (ix2 (y 1) (y 2)) * Ideal.div 1 (rscale (topOf Y (y 1) ⟨(y 2).val / 128, by
    have h : (y 2).val < 5120 := (y 2).isLt
    omega⟩)))

end Cert.Linear

end
-- ==== Proof.AccValue.lean ====
/- The accumulator of a grid point holds the layer's outputs of its 512 columns: the kernel's order of columns is a rearrangement of the sum. -/
module

public import proofs.«01_k».proof.Proof.ArraysIn
public import proofs.«01_k».proof.Proof.Linear

@[expose] public section

set_option maxRecDepth 16384

noncomputable section

namespace Cert.KernelIdeal.Value

open Idealize.ShloMosaic Idealize.ShloMosaic.TcCoe Cert.KernelIdeal.Gen Cert.KernelIdeal.Body Cert.Linear

/-! ## The kernel's order of columns -/

theorem srcCol_val (n : Fin 56) (κ : Fin 256) :
    (srcCol n κ).val = 256 * n.val + 128 * (κ.val / 128) + 64 * (κ.val % 2) + 32 * (κ.val % 128 / 64) + κ.val % 64 / 2 := by
  show 256 * n.val + 128 * (κ.val / 128) + (64 * (κ.val % 128 % 2) + 32 * (κ.val % 128 / 64) + κ.val % 128 % 64 / 2) = _
  omega

/-- The digits of a position. -/
theorem pos_digits : ∀ κ : Fin 256, κ.val = 128 * (κ.val / 128) + 64 * (κ.val % 128 / 64) + 2 * (κ.val % 64 / 2) + κ.val % 2 := by decide +kernel

/-- The digits of a column. -/
theorem col_digits (k : ℕ) : k = 256 * (k / 256) + 128 * (k % 256 / 128) + 64 * (k % 128 / 64) + 32 * (k % 64 / 32) + k % 32 := by
  have e0 : k % 128 = k % 256 % 128 := (Nat.mod_mod_of_dvd k (by decide : 128 ∣ 256)).symm
  have e1 : k % 64 = k % 256 % 128 % 64 := by rw [← e0]; exact (Nat.mod_mod_of_dvd k (by decide : 64 ∣ 128)).symm
  have e2 : k % 32 = k % 256 % 128 % 64 % 32 := by rw [← e1]; exact (Nat.mod_mod_of_dvd k (by decide : 32 ∣ 64)).symm
  rw [e0, e1, e2]
  have h0 := Nat.div_add_mod k 256
  have h1 := Nat.div_add_mod (k % 256) 128
  have h2 := Nat.div_add_mod (k % 256 % 128) 64
  have h3 := Nat.div_add_mod (k % 256 % 128 % 64) 32
  generalize k % 256 % 128 % 64 % 32 = r3 at *
  generalize k % 256 % 128 % 64 / 32 = q3 at *
  generalize k % 256 % 128 % 64 = r2 at *
  generalize k % 256 % 128 / 64 = q2 at *
  generalize k % 256 % 128 = r1 at *
  generalize k % 256 / 128 = q1 at *
  generalize k % 256 = r0 at *
  generalize k / 256 = q0 at *
  omega

theorem of_col (n h p b f : ℕ) (hh : h < 2) (hp : p < 2) (hb : b < 32) (hf : f < 2) :
    (256 * n + 128 * h + 64 * f + 32 * p + b) / 256 = n ∧ (256 * n + 128 * h + 64 * f + 32 * p + b) % 256 / 128 = h
    ∧ (256 * n + 128 * h + 64 * f + 32 * p + b) % 64 / 32 = p ∧ (256 * n + 128 * h + 64 * f + 32 * p + b) % 32 = b
    ∧ (256 * n + 128 * h + 64 * f + 32 * p + b) % 128 / 64 = f ∧ (256 * n + 128 * h + 64 * f + 32 * p + b) % 128 / 32 = 2 * f + p := by
  refine ⟨by omega, ?_, by omega, by omega, ?_, ?_⟩
  · have e : (256 * n + 128 * h + 64 * f + 32 * p + b) % 256 = 128 * h + 64 * f + 32 * p + b := by omega
    omega
  · have e : (256 * n + 128 * h + 64 * f + 32 * p + b) % 128 = 64 * f + 32 * p + b := by omega
    omega
  · have e : (256 * n + 128 * h + 64 * f + 32 * p + b) % 128 = 64 * f + 32 * p + b := by omega
    omega

theorem of_pos (h p b f : ℕ) (hh : h < 2) (hp : p < 2) (hb : b < 32) (hf : f < 2) :
    (128 * h + 64 * p + 2 * b + f) / 128 = h ∧ (128 * h + 64 * p + 2 * b + f) % 2 = f
    ∧ (128 * h + 64 * p + 2 * b + f) % 128 / 64 = p ∧ (128 * h + 64 * p + 2 * b + f) % 64 / 2 = b := by
  refine ⟨by omega, by omega, ?_, ?_⟩
  · have e : (128 * h + 64 * p + 2 * b + f) % 128 = 64 * p + 2 * b + f := by omega
    omega
  · have e : (128 * h + 64 * p + 2 * b + f) % 64 = 2 * b + f := by omega
    omega

/-- The digits of the column of a position. -/
theorem src_digits (n : Fin 56) (κ : Fin 256) : (srcCol n κ).val / 256 = n.val ∧ (srcCol n κ).val % 256 / 128 = κ.val / 128
    ∧ (srcCol n κ).val % 64 / 32 = κ.val % 128 / 64 ∧ (srcCol n κ).val % 32 = κ.val % 64 / 2
    ∧ (srcCol n κ).val % 128 / 64 = κ.val % 2 ∧ (srcCol n κ).val % 128 / 32 = 2 * (κ.val % 2) + κ.val % 128 / 64 := by
  rw [srcCol_val]
  exact of_col _ _ _ _ _ (by omega) (by omega) (by omega) (by omega)

theorem pos_lt (k : ℕ) : 128 * (k % 256 / 128) + 64 * (k % 64 / 32) + 2 * (k % 32) + k % 128 / 64 < 256 := by
  have h0 : k % 256 / 128 < 2 := by omega
  have h1 : k % 64 / 32 < 2 := by omega
  have h2 : k % 32 < 32 := by omega
  have h3 : k % 128 / 64 < 2 := by omega
  omega

/-- Every column is one position of one super-block. -/
def colEquiv : Fin 56 × Fin 256 ≃ Fin 14336 where
  toFun p := srcCol p.1 p.2
  invFun k := (⟨k.val / 256, by omega⟩, ⟨128 * (k.val % 256 / 128) + 64 * (k.val % 64 / 32) + 2 * (k.val % 32) + k.val % 128 / 64, pos_lt k.val⟩)
  left_inv p := by
    obtain ⟨n, κ⟩ := p
    obtain ⟨h0, h1, h2, h3, h4, h5⟩ := src_digits n κ
    refine Prod.ext (Fin.ext h0) (Fin.ext ?_)
    show 128 * ((srcCol n κ).val % 256 / 128) + 64 * ((srcCol n κ).val % 64 / 32) + 2 * ((srcCol n κ).val % 32) + (srcCol n κ).val % 128 / 64 = κ.val
    rw [h1, h2, h3, h4]
    exact (pos_digits κ).symm
  right_inv k := by
    refine Fin.ext ((srcCol_val _ _).trans ?_)
    obtain ⟨h0, h1, h2, h3⟩ := of_pos (k.val % 256 / 128) (k.val % 64 / 32) (k.val % 32) (k.val % 128 / 64) (by omega) (by omega) (by omega) (by omega)
    show 256 * (k.val / 256) + 128 * ((128 * (k.val % 256 / 128) + 64 * (k.val % 64 / 32) + 2 * (k.val % 32) + k.val % 128 / 64) / 128)
      + 64 * ((128 * (k.val % 256 / 128) + 64 * (k.val % 64 / 32) + 2 * (k.val % 32) + k.val % 128 / 64) % 2)
      + 32 * ((128 * (k.val % 256 / 128) + 64 * (k.val % 64 / 32) + 2 * (k.val % 32) + k.val % 128 / 64) % 128 / 64)
      + (128 * (k.val % 256 / 128) + 64 * (k.val % 64 / 32) + 2 * (k.val % 32) + k.val % 128 / 64) % 64 / 2 = k.val
    rw [h0, h1, h2, h3]
    exact (col_digits k.val).symm

theorem sum_columns (f : Fin 14336 → EReal) : ∑ n : Fin 56, ∑ κ : Fin 256, f (srcCol n κ) = ∑ k : Fin 14336, f k := by
  rw [← Fintype.sum_prod_type' fun n κ => f (srcCol n κ)]
  exact Fintype.sum_equiv colEquiv _ _ fun p => rfl

variable (m : (ℓ : Loc nD τ sig) → Buf (Elt Ideal) ℓ) (c : Dev nD) (t : Fin cfg0.N)

/-- The layer's outputs on core `c`, from the arguments as launched. -/
def Y : Vec Ideal S128x5120 .bf16 :=
  outputs (m ((c : Thread nD τ).loc main_arg0)) (m ((c : Thread nD τ).loc main_arg1)) (m ((c : Thread nD τ).loc main_arg2))
    (m ((c : Thread nD τ).loc main_arg3)) (m ((c : Thread nD τ).loc main_arg4))

theorem code_eq (n : Fin 56) (κ : Fin 256) (j : Fin 512) :
    ((nib (iblk m c 1 t (ix4 n ⟨κ.val / 128, by omega⟩ ⟨32 * (κ.val % 128 / 64) + κ.val % 64 / 2, by omega⟩ j)) (κ.val % 2) : ℤ)
      + 16 * crumb (iblk m c 2 t (ix4 n ⟨κ.val / 128, by omega⟩ ⟨κ.val % 64 / 2, by omega⟩ j)) (2 * (κ.val % 2) + κ.val % 128 / 64))
    = (code (m ((c : Thread nD τ).loc main_arg1)) (m ((c : Thread nD τ).loc main_arg2)) (col t j) (srcCol n κ) : ℤ) := by
  obtain ⟨h0, h1, h2, h3, e4, e5⟩ := src_digits n κ
  rw [blk_ql, blk_qh]
  unfold code
  have e0 : (⟨(srcCol n κ).val / 256, by omega⟩ : Fin 56) = n := Fin.ext h0
  have e1 : (⟨(srcCol n κ).val % 256 / 128, by omega⟩ : Fin 2) = ⟨κ.val / 128, by omega⟩ := Fin.ext h1
  have e2 : (⟨32 * ((srcCol n κ).val % 64 / 32) + (srcCol n κ).val % 32, by omega⟩ : Fin 64) = ⟨32 * (κ.val % 128 / 64) + κ.val % 64 / 2, by omega⟩ :=
    Fin.ext (by
      show 32 * ((srcCol n κ).val % 64 / 32) + (srcCol n κ).val % 32 = 32 * (κ.val % 128 / 64) + κ.val % 64 / 2
      rw [h2, h3])
  have e3 : (⟨(srcCol n κ).val % 32, by omega⟩ : Fin 32) = ⟨κ.val % 64 / 2, by omega⟩ := Fin.ext h3
  rw [e0, e1, e2, e3, e4, e5]
  push_cast
  rfl

/-- A scale of the kernel's order, at the column that it belongs to. -/
theorem slab_eq (g : Fin 4) (ρ : Fin 448) (f : Fin 2) (l : Fin 128) (J : Fin 5120) (k : Fin 14336) (hJ : slabCol t g l = J)
    (hn : ρ.val / 8 = k.val / 256) (hs : 8 * (ρ.val % 8 / 4) + 4 * f.val + ρ.val % 4 = k.val % 256 / 16) :
    slab ((![iblk m c 3 t, iblk m c 4 t, iblk m c 5 t, iblk m c 6 t] : Fin 4 → Vec Ideal S56x16x128 .i8) g) (slabScales (iblk m c 7 t)) g ρ f l
      = scaleOf (m ((c : Thread nD τ).loc main_arg3)) (m ((c : Thread nD τ).loc main_arg4)) J k := by
  subst hJ
  unfold slab scaleOf
  rw [mul_comm, blk_sc]
  have hd : slabScales (iblk m c 7 t) (ix3 g ⟨ρ.val / 8, by omega⟩ l) = m ((c : Thread nD τ).loc main_arg4) (ix2 (slabCol t g l) ⟨k.val / 256, by omega⟩) := by
    refine (blk_d m c t ⟨ρ.val / 8, by omega⟩ ⟨128 * g.val + l.val, by omega⟩).trans ?_
    have e : col t ⟨128 * g.val + l.val, by omega⟩ = slabCol t g l := Fin.ext (by
      show 512 * t.val + (128 * g.val + l.val) = 512 * t.val + 128 * g.val + l.val
      omega)
    rw [e]
    exact congrArg (fun n => m ((c : Thread nD τ).loc main_arg4) (ix2 (slabCol t g l) n)) (Fin.ext hn)
  rw [hd]
  have e0 : (⟨ρ.val / 8, by omega⟩ : Fin 56) = ⟨k.val / 256, by omega⟩ := Fin.ext hn
  have e1 : (⟨8 * (ρ.val % 8 / 4) + 4 * f.val + ρ.val % 4, by omega⟩ : Fin 16) = ⟨k.val % 256 / 16, by omega⟩ := Fin.ext hs
  rw [e0, e1]

theorem sub_block (n h p q b f : ℕ) (hh : h < 2) (hp : p < 2) (hq : q < 2) (hb : b < 16) (hf : f < 2) :
    8 * ((8 * n + 4 * h + 2 * p + q) % 8 / 4) + 4 * f + (8 * n + 4 * h + 2 * p + q) % 4
      = (256 * n + 128 * h + 64 * f + 32 * p + (16 * q + b)) % 256 / 16 := by
  have e0 : (8 * n + 4 * h + 2 * p + q) % 8 / 4 = h := by omega
  have e1 : (8 * n + 4 * h + 2 * p + q) % 4 = 2 * p + q := by omega
  have e2 : (256 * n + 128 * h + 64 * f + 32 * p + (16 * q + b)) % 256 = 128 * h + 64 * f + 32 * p + (16 * q + b) := by omega
  have e3 : (128 * h + 64 * f + 32 * p + (16 * q + b)) / 16 = 8 * h + 4 * f + 2 * p + q := by omega
  rw [e0, e1, e2, e3]
  omega

theorem super_block (n h p q b f : ℕ) (hh : h < 2) (hp : p < 2) (hq : q < 2) (hb : b < 16) (hf : f < 2) :
    (8 * n + 4 * h + 2 * p + q) / 8 = (256 * n + 128 * h + 64 * f + 32 * p + (16 * q + b)) / 256 := by
  have e0 : (8 * n + 4 * h + 2 * p + q) / 8 = n := by omega
  have e1 : (256 * n + 128 * h + 64 * f + 32 * p + (16 * q + b)) / 256 = n := by omega
  rw [e0, e1]

theorem halves (a : ℕ) : a % 64 / 2 = 16 * (a % 64 / 32) + a % 32 / 2 := by
  have e : a % 32 = a % 64 % 32 := (Nat.mod_mod_of_dvd a (by decide : 32 ∣ 64)).symm
  rw [e]
  generalize a % 64 = r
  have h := Nat.div_add_mod r 32
  generalize r / 32 = q at *
  generalize r % 32 = s at *
  omega

theorem row_lt (n : Fin 56) (κ : Fin 256) : 8 * n.val + 4 * (κ.val / 128) + 2 * (κ.val % 128 / 64) + κ.val % 64 / 32 < 448 := by omega

theorem scale_eq (n : Fin 56) (κ : Fin 256) (j : Fin 512) :
    scales (iblk m c 3 t) (iblk m c 4 t) (iblk m c 5 t) (iblk m c 6 t) (iblk m c 7 t)
      (ix4 ⟨j.val / 128, by omega⟩ ⟨8 * n.val + 4 * (κ.val / 128) + 2 * (κ.val % 128 / 64) + κ.val % 64 / 32, row_lt n κ⟩ ⟨κ.val % 2, by omega⟩ ⟨j.val % 128, by omega⟩)
    = scaleOf (m ((c : Thread nD τ).loc main_arg3)) (m ((c : Thread nD τ).loc main_arg4)) (col t j) (srcCol n κ) := by
  have h := srcCol_val n κ
  refine slab_eq m c t ⟨j.val / 128, by omega⟩ ⟨_, row_lt n κ⟩ ⟨κ.val % 2, by omega⟩ ⟨j.val % 128, by omega⟩ _ _ (Fin.ext ?_) ?_ ?_
  · show 512 * t.val + 128 * (j.val / 128) + j.val % 128 = 512 * t.val + j.val
    omega
  · show (8 * n.val + 4 * (κ.val / 128) + 2 * (κ.val % 128 / 64) + κ.val % 64 / 32) / 8 = _
    rw [h, halves]
    exact super_block n.val (κ.val / 128) (κ.val % 128 / 64) (κ.val % 64 / 32) (κ.val % 32 / 2) (κ.val % 2) (by omega) (by omega) (by omega) (by omega) (by omega)
  · show 8 * ((8 * n.val + 4 * (κ.val / 128) + 2 * (κ.val % 128 / 64) + κ.val % 64 / 32) % 8 / 4) + 4 * (κ.val % 2)
        + (8 * n.val + 4 * (κ.val / 128) + 2 * (κ.val % 128 / 64) + κ.val % 64 / 32) % 4 = _
    rw [h, halves]
    exact sub_block n.val (κ.val / 128) (κ.val % 128 / 64) (κ.val % 64 / 32) (κ.val % 32 / 2) (κ.val % 2) (by omega) (by omega) (by omega) (by omega) (by omega)

/-- The activation as the kernel orders it. -/
theorem x_eq (r : Fin 128) (n : Fin 56) (κ : Fin 256) : xs m c (ix3 n r κ) = m ((c : Thread nD τ).loc main_arg0) (ix3 0 r (srcCol n κ)) :=
  blk_x m c p0 r (srcCol n κ)

/-- The accumulator of point `t` holds the outputs of columns `512 t` to `512 t + 511`. -/
theorem acc_eq (r : Fin 128) (j : Fin 512) : accAt m c t (ix2 r j) = Y m c (ix2 r (col t j)) := by
  show ∑ n : Fin 56, ∑ κ : Fin 256, xs m c (ix3 n r κ) * weight (iblk m c 1 t) (iblk m c 2 t)
    (scales (iblk m c 3 t) (iblk m c 4 t) (iblk m c 5 t) (iblk m c 6 t) (iblk m c 7 t)) n κ j
    = ∑ k : Fin 14336, (show EReal from m ((c : Thread nD τ).loc main_arg0) (ix3 0 r k))
    * (((((code (m ((c : Thread nD τ).loc main_arg1)) (m ((c : Thread nD τ).loc main_arg2)) (col t j) k : ℤ) - 32 : ℤ) : ℝ) : EReal)
      * scaleOf (m ((c : Thread nD τ).loc main_arg3)) (m ((c : Thread nD τ).loc main_arg4)) (col t j) k)
  rw [← sum_columns]
  refine Finset.sum_congr rfl fun n _ => Finset.sum_congr rfl fun κ _ => ?_
  unfold weight
  rw [code_eq, scale_eq, x_eq]

end Cert.KernelIdeal.Value

end
-- ==== Proof.ArraysOut.lean ====
/- What the kernel's results hold after a run: the layer's outputs, their codes and their scales. -/
module

public import proofs.«01_k».proof.Proof.AccValue
public import Idealize.ShloMosaic.Lib.Pipeline.ValueKit.Geometry

@[expose] public section

set_option maxRecDepth 16384

noncomputable section

namespace Cert.KernelIdeal.Value

open Idealize.ShloMosaic Idealize.ShloMosaic.TcCoe Cert.KernelIdeal.Gen Cert.KernelIdeal.Body Cert.KernelIdeal.Epilogue Cert.Linear Cert.Scale

variable (m : (ℓ : Loc nD τ sig) → Buf (Elt Ideal) ℓ) (c : Dev nD)

/-- The codes as the run leaves them, a column of the layer at a time. -/
def codesArr : Vec Ideal S128x5120 .fp8e4m3 := fun y => groupCodes (Y m c) (ix3 0 (y 0) (y 1))

/-- The scales as the run leaves them: by grid point, group and row. -/
def scalesArr : Vec Ideal S10x4x128 .f32 := fun y => rscale (topOf (Y m c) (y 2) ⟨4 * (y 0).val + (y 1).val, by
  have h0 : (y 0).val < 10 := (y 0).isLt
  have h1 : (y 1).val < 4 := (y 1).isLt
  omega⟩)

/-- A group's threshold from the accumulator of its grid point. -/
theorem top_eq (t : Fin cfg0.N) (r : Fin 128) (g : Fin 4) (G : Fin 40) (hG : G.val = 4 * t.val + g.val) :
    (top fun x => accAt m c t (ix2 r ⟨128 * g.val + x.val, by omega⟩)) = topOf (Y m c) r G := by
  unfold topOf
  refine congrArg top (funext fun x => (acc_eq m c t r _).trans ?_)
  exact congrArg (fun J => Y m c (ix2 r J)) (Fin.ext (by
    show 512 * t.val + (128 * g.val + x.val) = 128 * G.val + x.val
    omega))

theorem arr8 : (dats m 0 c).arrAt 8 cfg0.N = Y m c := by
  refine (dats m 0 c).arrAt_eq_of_covers 8 _ (by decide +kernel) fun t hf y => ?_
  blk_simp [index8]
  rw [after0_8]
  obtain ⟨r, j, rfl⟩ : ∃ (r : Fin 128) (j : Fin 512), y = ix2 r j := ⟨_, _, eq_ix2 y⟩
  refine (acc_eq m c t r j).trans (congrArg (Y m c) (funext fun a => Fin.ext ?_))
  have e := index8 t
  match a with
  | ⟨0, _⟩ => show r.val = win0_8.index t 0 * 128 + 1 * r.val; rw [e]; show r.val = 0 * 128 + 1 * r.val; omega
  | ⟨1, _⟩ => show 512 * t.val + j.val = win0_8.index t 1 * 512 + 1 * j.val; rw [e]; show 512 * t.val + j.val = t.val * 512 + 1 * j.val; omega

/-- The codes of a grid point's columns. -/
theorem codes_point (t : Fin cfg0.N) (r : Fin 128) (j : Fin 512) : codesOut (accAt m c t) (ix2 r j) = codesArr m c (ix2 r (col t j)) := by
  have h : codesOut (accAt m c t) (ix2 r j)
      = clamp (accAt m c t (ix2 r j) * kinv (top fun x => accAt m c t (ix2 r ⟨128 * (j.val / 128) + x.val, by omega⟩))) := rfl
  have h' : codesArr m c (ix2 r (col t j))
      = clamp (Y m c (ix2 r (col t j)) * Ideal.div 1 (rscale (topOf (Y m c) r ⟨(col t j).val / 128, by omega⟩))) := rfl
  rw [h, h', acc_eq, kinv_eq]
  refine congrArg (fun v => clamp (Y m c (ix2 r (col t j)) * Ideal.div 1 (rscale v))) ?_
  exact top_eq m c t r ⟨j.val / 128, by omega⟩ _ (by
    show (512 * t.val + j.val) / 128 = 4 * t.val + j.val / 128
    omega)

theorem arr9 : (dats m 0 c).arrAt 9 cfg0.N = codesArr m c := by
  refine (dats m 0 c).arrAt_eq_of_covers 9 _ (by decide +kernel) fun t hf y => ?_
  blk_simp [index9]
  rw [after0_9]
  obtain ⟨r, j, rfl⟩ : ∃ (r : Fin 128) (j : Fin 512), y = ix2 r j := ⟨_, _, eq_ix2 y⟩
  refine (codes_point m c t r j).trans (congrArg (codesArr m c) (funext fun a => Fin.ext ?_))
  have e := index9 t
  match a with
  | ⟨0, _⟩ => show r.val = win0_9.index t 0 * 128 + 1 * r.val; rw [e]; show r.val = 0 * 128 + 1 * r.val; omega
  | ⟨1, _⟩ => show 512 * t.val + j.val = win0_9.index t 1 * 512 + 1 * j.val; rw [e]; show 512 * t.val + j.val = t.val * 512 + 1 * j.val; omega

/-- The scales of a grid point's groups. -/
theorem scales_point (t : Fin cfg0.N) (g : Fin 4) (r : Fin 128) : scalesOut (accAt m c t) (ix3 0 g r) = scalesArr m c (ix3 ⟨t.val, point_lt t⟩ g r) := by
  have h : scalesOut (accAt m c t) (ix3 0 g r) = kscale (top fun x => accAt m c t (ix2 r ⟨128 * g.val + x.val, by omega⟩)) := rfl
  rw [h, kscale_eq]
  exact congrArg rscale (top_eq m c t r g _ rfl)

theorem arr10 : (dats m 0 c).arrAt 10 cfg0.N = scalesArr m c := by
  refine (dats m 0 c).arrAt_eq_of_covers 10 _ (by decide +kernel) fun t hf y => ?_
  blk_simp [index10]
  rw [after0_10]
  obtain ⟨z, g, r, rfl⟩ : ∃ (z : Fin 1) (g : Fin 4) (r : Fin 128), y = ix3 z g r := ⟨_, _, _, eq_ix3 y⟩
  obtain rfl : z = 0 := Subsingleton.elim _ _
  refine (scales_point m c t g r).trans (congrArg (scalesArr m c) (funext fun a => Fin.ext ?_))
  have e := index10 t
  match a with
  | ⟨0, _⟩ => show t.val = win0_10.index t 0 * 1 + 1 * 0; rw [e]; show t.val = t.val * 1 + 1 * 0; omega
  | ⟨1, _⟩ => show g.val = win0_10.index t 1 * 4 + 1 * g.val; rw [e]; show g.val = 0 * 4 + 1 * g.val; omega
  | ⟨2, _⟩ => show r.val = win0_10.index t 2 * 128 + 1 * r.val; rw [e]; show r.val = 0 * 128 + 1 * r.val; omega

/-- The windows that share an array are inputs. -/
theorem shared : ∀ w w' : Fin 11, w ≠ w' → Pipeline.arrRef spec0 w = Pipeline.arrRef spec0 w' → w = 3 ∨ w = 4 ∨ w = 5 ∨ w = 6 := by decide +kernel

/-- After the pipeline each window's array is the one that its points leave. -/
theorem withOut (w : Fin 11) : Pipeline.withArrays spec0 c (V0 m c) (fun w => (dats m 0 c).arrAt w cfg0.N) (Proc.devRef .tc (Pipeline.arrRef spec0 w))
    = (dats m 0 c).arrAt w cfg0.N := by
  refine Pipeline.withArrays_arr_shared spec0 c (V0 m c) (fun w => (dats m 0 c).arrAt w cfg0.N) (fun w w' hne h => ?_) w
  rcases shared w w' hne h with rfl | rfl | rfl | rfl
  · exact ((dats m 0 c).arrAt_in 3 rfl _).trans (A_eq m c 3)
  · exact ((dats m 0 c).arrAt_in 4 rfl _).trans (A_eq m c 4)
  · exact ((dats m 0 c).arrAt_in 5 rfl _).trans (A_eq m c 5)
  · exact ((dats m 0 c).arrAt_in 6 rfl _).trans (A_eq m c 6)

theorem res_y (z : Fin 1) (r : Fin 128) (J : Fin 5120) : Pipeline.afterTail₀ cfgs (dats m) 0 (V0 m) [hostOps1] c main_v8 (ix3 z r J) = Y m c (ix2 r J) := by
  show StableHlo.after hostOps1 _ (Proc.devRef .tc main_v8) _ = _
  after_reads_at
  exact congrFun ((withOut m c 8).trans (arr8 m c)) (ix2 r J)

theorem res_codes (z : Fin 1) (r : Fin 128) (J : Fin 5120) : Pipeline.afterTail₀ cfgs (dats m) 0 (V0 m) [hostOps1] c main_v9 (ix3 z r J) = codesArr m c (ix2 r J) := by
  show StableHlo.after hostOps1 _ (Proc.devRef .tc main_v9) _ = _
  after_reads_at
  exact congrFun ((withOut m c 9).trans (arr9 m c)) (ix2 r J)

theorem res_scales (z : Fin 1) (r : Fin 128) (G : Fin 40) : Pipeline.afterTail₀ cfgs (dats m) 0 (V0 m) [hostOps1] c main_v10 (ix3 z r G)
    = scalesArr m c (ix3 ⟨G.val / 4, by omega⟩ ⟨G.val % 4, by omega⟩ r) := by
  show StableHlo.after hostOps1 _ (Proc.devRef .tc main_v10) _ = _
  after_reads_at
  exact congrFun ((withOut m c 10).trans (arr10 m c)) _

/-- The outputs as the layer's three axes. -/
def outs : Vec Ideal S1x128x5120 .bf16 := fun y => Y m c (ix2 (y 1) (y 2))

theorem kernel_y : Pipeline.afterTail₀ cfgs (dats m) 0 (V0 m) [hostOps1] c main_v8 = outs m c := by
  refine funext fun y => ?_
  obtain ⟨z, r, J, rfl⟩ : ∃ (z : Fin 1) (r : Fin 128) (J : Fin 5120), y = ix3 z r J := ⟨_, _, _, eq_ix3 y⟩
  exact res_y m c z r J

theorem kernel_codes : Pipeline.afterTail₀ cfgs (dats m) 0 (V0 m) [hostOps1] c main_v9 = groupCodes (Y m c) := by
  refine funext fun y => ?_
  obtain ⟨z, r, J, rfl⟩ : ∃ (z : Fin 1) (r : Fin 128) (J : Fin 5120), y = ix3 z r J := ⟨_, _, _, eq_ix3 y⟩
  exact res_codes m c z r J

theorem kernel_scales : Pipeline.afterTail₀ cfgs (dats m) 0 (V0 m) [hostOps1] c main_v10 = groupScales (Y m c) := by
  refine funext fun y => ?_
  obtain ⟨z, r, G, rfl⟩ : ∃ (z : Fin 1) (r : Fin 128) (G : Fin 40), y = ix3 z r G := ⟨_, _, _, eq_ix3 y⟩
  refine (res_scales m c z r G).trans ?_
  exact congrArg (fun G => rscale (topOf (Y m c) r G)) (Fin.ext (by
    show 4 * (G.val / 4) + G.val % 4 = G.val
    omega))

end Cert.KernelIdeal.Value

end
-- ==== Proof.RefHost.lean ====
/- What the reference's host operations leave in the arrays that its kernel reads. -/
module

public import proofs.«01_k».proof.Proof.Linear
public import proofs.«01_k».proof.Proof.Gen.ReferenceIdeal.Value
public import Idealize.ShloMosaic.Lib.StableHlo.ReadAt

@[expose] public section

set_option maxRecDepth 16384

noncomputable section

namespace Cert.ReferenceIdeal.Value

open Idealize.ShloMosaic Idealize.ShloMosaic.TcCoe Cert.ReferenceIdeal Cert.ReferenceIdeal.Gen

variable (m : (ℓ : Loc nD τ sig) → Buf (Elt Ideal) ℓ) (c : Dev nD)

theorem V_x (r : Fin 128) (k : Fin 14336) : V m c main_v50 (ix2 r k) = m ((c : Thread nD τ).loc main_arg0) (ix3 0 r k) := by
  show StableHlo.after hostOps0 _ (Proc.devRef .tc main_v50) _ = _
  after_reads_at

theorem V_d (J : Fin 5120) (k : Fin 14336) : V m c main_v49 (ix2 J k) = m ((c : Thread nD τ).loc main_arg4) (ix2 J ⟨k.val / 256, by omega⟩) := by
  show StableHlo.after hostOps0 _ (Proc.devRef .tc main_v49) _ = _
  after_reads_at

theorem V_sc (J : Fin 5120) (k : Fin 14336) : V m c main_v46 (ix2 J k)
    = m ((c : Thread nD τ).loc main_arg3) (ix3 J ⟨k.val / 256, by omega⟩ ⟨k.val % 256 / 16, by omega⟩) := by
  show StableHlo.after hostOps0 _ (Proc.devRef .tc main_v46) _ = _
  after_reads_at
  exact congrArg (fun s => m ((c : Thread nD τ).loc main_arg3) (ix3 J ⟨k.val / 256, by omega⟩ s)) (Fin.ext (by
    show k.val / 16 % 16 = k.val % 256 / 16
    omega))

/-! ## The codes -/

open Cert.KernelIdeal.Body (nib crumb)

theorem nib0 : ∀ b : BitVec 8, IntOp.andi (b.setWidth 32) 15#32 = BitVec.ofNat 32 (nib b 0) :=
  Cert.KernelIdeal.Body.BitVec8.forall _ (by decide +kernel)
theorem nib1 : ∀ b : BitVec 8, IntOp.shrsi ArithUnit.host (b.setWidth 32) 4#32 = BitVec.ofNat 32 (nib b 1) :=
  Cert.KernelIdeal.Body.BitVec8.forall _ (by decide +kernel)
theorem crumb0 : ∀ b : BitVec 8, IntOp.andi (b.setWidth 32) 3#32 = BitVec.ofNat 32 (crumb b 0) :=
  Cert.KernelIdeal.Body.BitVec8.forall _ (by decide +kernel)
theorem crumb1 : ∀ b : BitVec 8, IntOp.andi (IntOp.shrsi ArithUnit.host (b.setWidth 32) 2#32) 3#32 = BitVec.ofNat 32 (crumb b 1) :=
  Cert.KernelIdeal.Body.BitVec8.forall _ (by decide +kernel)
theorem crumb2 : ∀ b : BitVec 8, IntOp.andi (IntOp.shrsi ArithUnit.host (b.setWidth 32) 4#32) 3#32 = BitVec.ofNat 32 (crumb b 2) :=
  Cert.KernelIdeal.Body.BitVec8.forall _ (by decide +kernel)
theorem crumb3 : ∀ b : BitVec 8, IntOp.andi (IntOp.shrsi ArithUnit.host (b.setWidth 32) 6#32) 3#32 = BitVec.ofNat 32 (crumb b 3) :=
  Cert.KernelIdeal.Body.BitVec8.forall _ (by decide +kernel)

/-- Four low bits and two high ones are joined by their sum. -/
theorem joined (n k : ℕ) (hn : n < 16) (hk : k < 4) : IntOp.ori (BitVec.ofNat 32 n) (IntOp.shli ArithUnit.host (BitVec.ofNat 32 k) 4#32) = BitVec.ofNat 32 (n + 16 * k) :=
  (by decide +kernel : ∀ (n : Fin 16) (k : Fin 4), IntOp.ori (BitVec.ofNat 32 n.val) (IntOp.shli ArithUnit.host (BitVec.ofNat 32 k.val) 4#32)
    = BitVec.ofNat 32 (n.val + 16 * k.val)) ⟨n, hn⟩ ⟨k, hk⟩

section
variable (J : Fin 5120) (n : Fin 56) (h : Fin 2) (z : Fin 1) (b : Fin 32)

theorem plane0 : StableHlo.upto hostOps0 (fun b => m (c, b)) 57 (Proc.tc.devRef main_v38) (ix5 J n h z b)
    = BitVec.ofNat 32 (nib (m ((c : Thread nD τ).loc main_arg1) (ix4 J n h ⟨b.val, by omega⟩)) 0 + 16 * crumb (m ((c : Thread nD τ).loc main_arg2) (ix4 J n h b)) 0) := by
  after_reads_at
  rw [nib0, crumb0]
  exact joined _ _ (Nat.mod_lt _ (by decide)) (Nat.mod_lt _ (by decide))

theorem plane1 : StableHlo.upto hostOps0 (fun b => m (c, b)) 57 (Proc.tc.devRef main_v39) (ix5 J n h z b)
    = BitVec.ofNat 32 (nib (m ((c : Thread nD τ).loc main_arg1) (ix4 J n h ⟨32 + b.val, by omega⟩)) 0 + 16 * crumb (m ((c : Thread nD τ).loc main_arg2) (ix4 J n h b)) 1) := by
  after_reads_at
  rw [nib0, crumb1]
  exact joined _ _ (Nat.mod_lt _ (by decide)) (Nat.mod_lt _ (by decide))

theorem plane2 : StableHlo.upto hostOps0 (fun b => m (c, b)) 57 (Proc.tc.devRef main_v40) (ix5 J n h z b)
    = BitVec.ofNat 32 (nib (m ((c : Thread nD τ).loc main_arg1) (ix4 J n h ⟨b.val, by omega⟩)) 1 + 16 * crumb (m ((c : Thread nD τ).loc main_arg2) (ix4 J n h b)) 2) := by
  after_reads_at
  rw [nib1, crumb2]
  exact joined _ _ (Nat.mod_lt _ (by decide)) (Nat.mod_lt _ (by decide))

theorem plane3 : StableHlo.upto hostOps0 (fun b => m (c, b)) 57 (Proc.tc.devRef main_v41) (ix5 J n h z b)
    = BitVec.ofNat 32 (nib (m ((c : Thread nD τ).loc main_arg1) (ix4 J n h ⟨32 + b.val, by omega⟩)) 1 + 16 * crumb (m ((c : Thread nD τ).loc main_arg2) (ix4 J n h b)) 3) := by
  after_reads_at
  rw [nib1, crumb3]
  exact joined _ _ (Nat.mod_lt _ (by decide)) (Nat.mod_lt _ (by decide))

end

/-- A column's code in one plane of four. -/
theorem code_of (J : Fin 5120) (k : Fin 14336) (u p : ℕ) (hu : u < 2) (hp : p < 2) (hk : k.val / 32 % 4 = p + 2 * u) (y : Fin 64) (hy : y.val = 32 * p + k.val % 32)
    (h : Fin 2) (hh : h.val = k.val / 128 % 2) (ql : Vec Ideal Cert.KernelIdeal.S5120x56x2x64 .i8) (qh : Vec Ideal Cert.KernelIdeal.S5120x56x2x32 .i8) :
    nib (ql (ix4 J ⟨k.val / 256, by omega⟩ h y)) u + 16 * crumb (qh (ix4 J ⟨k.val / 256, by omega⟩ h ⟨k.val % 32, by omega⟩)) (p + 2 * u)
      = Cert.Linear.code ql qh J k := by
  unfold Cert.Linear.code
  have e0 : h = ⟨k.val % 256 / 128, by omega⟩ := Fin.ext (by show h.val = k.val % 256 / 128; omega)
  have e1 : y = ⟨32 * (k.val % 64 / 32) + k.val % 32, by omega⟩ := Fin.ext (by show y.val = 32 * (k.val % 64 / 32) + k.val % 32; omega)
  have e2 : k.val % 128 / 64 = u := by omega
  have e3 : k.val % 128 / 32 = p + 2 * u := by omega
  rw [e2, e3]
  exact congrArg₂ (fun (h : Fin 2) (y : Fin 64) => nib (ql (ix4 J ⟨k.val / 256, by omega⟩ h y)) u
    + 16 * crumb (qh (ix4 J ⟨k.val / 256, by omega⟩ h ⟨k.val % 32, by omega⟩)) (p + 2 * u)) e0 e1

/-- The codes as the host joins them: of the plane `k % 128 / 32`, its low four bits of one array of bytes and its high two of another. -/
theorem V_q (J : Fin 5120) (k : Fin 14336) : V m c main_v43 (ix2 J k)
    = BitVec.ofNat 32 (Cert.Linear.code (m ((c : Thread nD τ).loc main_arg1)) (m ((c : Thread nD τ).loc main_arg2)) J k) := by
  show StableHlo.after hostOps0 _ (Proc.devRef .tc main_v43) _ = _
  after_reads_at
  split
  · rw [plane0]
    exact congrArg _ (code_of J k 0 0 (by decide) (by decide) (by omega) _ (by show k.val % 32 = 32 * 0 + k.val % 32; omega) _ rfl _ _)
  · split
    · rw [plane1]
      exact congrArg _ (code_of J k 0 1 (by decide) (by decide) (by omega) _ (by show 32 + k.val % 32 = 32 * 1 + k.val % 32; omega) _ rfl _ _)
    · split
      · rw [plane2]
        exact congrArg _ (code_of J k 1 0 (by decide) (by decide) (by omega) _ (by show k.val % 32 = 32 * 0 + k.val % 32; omega) _ rfl _ _)
      · rw [plane3]
        exact congrArg _ (code_of J k 1 1 (by decide) (by decide) (by omega) _ (by show 32 + k.val % 32 = 32 * 1 + k.val % 32; omega) _ rfl _ _)

end Cert.ReferenceIdeal.Value

end
-- ==== Proof.RefConst.lean ====
/- The constants of the reference, and the powers of two among which it seeks a scale. -/
module

public import proofs.«01_k».proof.Proof.PowerOfTwo

@[expose] public section

noncomputable section

namespace Cert.Scale

open Idealize.ShloMosaic

/-- The offset of the codes. -/
theorem offset_eq : Ideal.ofBits .bf16 16896#16 = 32 := by
  show Ideal.ieee 8 7 (16896#16) = 32
  have hs : ((16896#16).extractLsb' 15 1 == 1#1) = false := by decide
  have he : ((16896#16).extractLsb' 7 8).toNat = 132 := by decide
  have hf : ((16896#16).extractLsb' 0 7).toNat = 0 := by decide
  unfold Ideal.ieee
  dsimp only
  rw [hs, he, hf, if_neg (by decide), if_neg (by decide), if_neg (by decide)]
  have e : (1 * ((2 ^ 7 + 0 : ℕ) : ℝ) * (2 : ℝ) ^ (((132 : ℕ) : ℤ) - (2 ^ (8 - 1) - 1) - ((7 : ℕ) : ℤ)) : ℝ) = 32 := by norm_num
  rw [e]
  rfl

/-- The word of infinity. -/
theorem infinity_eq : Ideal.ofBits .f32 2139095040#32 = ⊤ := by
  show Ideal.ieee 8 23 (2139095040#32) = ⊤
  have hs : ((2139095040#32).extractLsb' 31 1 == 1#1) = false := by decide
  have he : ((2139095040#32).extractLsb' 23 8).toNat = 255 := by decide
  have hf : ((2139095040#32).extractLsb' 0 23).toNat = 0 := by decide
  unfold Ideal.ieee
  dsimp only
  rw [hs, he, hf, if_pos (by decide), if_pos rfl, if_neg (by decide)]

theorem exponent_eq : ∀ i : Fin 252, (IntOp.subi (BitVec.ofNat 32 i.val) 125#32).toInt = (i.val : ℤ) - 125 := by decide +kernel

/-- The powers of two among which a scale is sought. -/
theorem power_at (i : Fin 252) : FloatOps.exp2 (F := Ideal) (φ := .f32) (FloatOps.sitofp .f32 (IntOp.subi (BitVec.ofNat 32 i.val) 125#32))
    = (((2 : ℝ) ^ ((i.val : ℤ) - 125) : ℝ) : EReal) := by
  show Ideal.exp2 ((((IntOp.subi (BitVec.ofNat 32 i.val) 125#32).toInt : ℝ)) : EReal) = _
  rw [exponent_eq, Ideal.exp2_coe]
  exact congrArg _ (Real.rpow_intCast 2 _)

theorem both (p q : Prop) [Decidable p] [Decidable q] (a b : EReal) :
    Scalar.select (IntOp.andi (BitVec.ofBool (decide p)) (BitVec.ofBool (decide q))) a b = if p ∧ q then a else b := by
  by_cases hp : p <;> by_cases hq : q <;> simp [IntOp.andi, Scalar.select, hp, hq]

end Cert.Scale

end
-- ==== Proof.RefMath.lean ====
/- What the reference computes, value by value. -/
module

public import proofs.«01_k».proof.Proof.Linear
public import proofs.«01_k».proof.Proof.RefConst
public import proofs.«01_k».proof.Proof.Gen.ReferenceIdeal.Value
public import Idealize.ShloMosaic.Lib.MatmulPlain

@[expose] public section

set_option maxRecDepth 16384

noncomputable section

namespace Cert.ReferenceIdeal.Value

open Idealize.ShloMosaic Idealize.ShloMosaic.TcCoe Cert.ReferenceIdeal Cert.ReferenceIdeal.Gen Cert.Scale Cert.Linear

section
variable (P0 : Vec Ideal S5120x14336 .f16) (P1 : Vec Ideal S5120x14336 .i8) (P2 : Vec Ideal S5120x14336 .i32) (P3 : Vec Ideal S128x14336 .bf16)

theorem pay4_apply (r : Fin 128) (J : Fin 5120) : k0_pay4 P0 P1 P2 P3 (ix2 r J)
    = ∑ k : Fin 14336, P3 (ix2 r k) * (((((P2 (ix2 J k)).toInt : ℝ) : EReal) - 32) * (P0 (ix2 J k) * (((P1 (ix2 J k)).toInt : ℝ) : EReal))) := by
  have h : k0_pay4 P0 P1 P2 P3 (ix2 r J) = ∑ x : Fin 14336, P3 (ix2 r x) * ((FloatOps.sitofp (F := Ideal) .bf16 (P2 (ix2 J x)) - Ideal.ofBits .bf16 16896#16)
      * (P0 (ix2 J x) * FloatOps.sitofp (F := Ideal) .f32 (P1 (ix2 J x)))) := by
    pointwise [k0_pay4]
  rw [h, offset_eq]
  rfl

theorem pay7_apply (r : Fin 128) (g : Fin 40) : k0_pay7 P0 P1 P2 P3 (ix3 r g 0) = topOf (k0_pay4 P0 P1 P2 P3) r g := by
  unfold k0_pay7 k0_pay6
  generalize k0_pay4 P0 P1 P2 P3 = Y
  pointwise []
  unfold topOf top
  simp only [Nat.mul_comm 128 g.val]

theorem pay8_apply (r : Fin 128) (g : Fin 40) : k0_pay8 P0 P1 P2 P3 (ix3 r g 0)
    = Finset.univ.fold min ⊤ (fun i : Fin 252 => if k0_pay7 P0 P1 P2 P3 (ix3 r g 0) < (((2 : ℝ) ^ ((i.val : ℤ) - 125) : ℝ) : EReal) then (((2 : ℝ) ^ ((i.val : ℤ) - 125) : ℝ) : EReal) else pw 253) := by
  unfold k0_pay8
  generalize k0_pay7 P0 P1 P2 P3 = v
  pointwise []
  simp only [power_at]
  rw [infinity_eq, show (2122317824#32) = word 253 from by unfold word; decide]
  rfl

end

section
variable (v21 : FVec Ideal S128x40x128 .f32) (v26 v40 : FVec Ideal S128x40x1 .f32)

theorem pay1_apply (r : Fin 128) (g : Fin 40) : k0_pay1 v26 v40 (ix3 r g 0)
    = if pw 1 ≤ v26 (ix3 r g 0) ∧ v26 (ix3 r g 0) < pw 253 then v40 (ix3 r g 0) else 1 := by
  have h : k0_pay1 v26 v40 (ix3 r g 0) = Scalar.select (IntOp.andi (BitVec.ofBool (decide (Ideal.ofBits .f32 8388608#32 ≤ v26 (ix3 r g 0))))
      (BitVec.ofBool (decide (v26 (ix3 r g 0) < Ideal.ofBits .f32 2122317824#32)))) (v40 (ix3 r g 0)) 1 := by
    pointwise [k0_pay1]
  rw [h, both, show (2122317824#32) = word 253 from by unfold word; decide, show (8388608#32) = word 1 from by unfold word; decide]
  rfl

theorem pay2_apply (r : Fin 128) (J : Fin 5120) : k0_pay2 v21 v26 v40 (ix3 0 r J)
    = clamp (v21 (ix3 r ⟨J.val / 128, by omega⟩ ⟨J.val % 128, by omega⟩) * Ideal.div 1 (k0_pay1 v26 v40 (ix3 r ⟨J.val / 128, by omega⟩ 0))) := by
  unfold k0_pay2 clamp
  generalize k0_pay1 v26 v40 = s
  pointwise []

theorem pay3_apply (r : Fin 128) (g : Fin 40) : k0_pay3 v26 v40 (ix3 0 r g) = k0_pay1 v26 v40 (ix3 r g 0) := by
  unfold k0_pay3
  generalize k0_pay1 v26 v40 = s
  pointwise []

end

end Cert.ReferenceIdeal.Value

end
-- ==== Proof.RefValue.lean ====
/- What the reference's results hold after a run: the layer's outputs, their codes and their scales. -/
module

public import proofs.«01_k».proof.Proof.RefHost
public import proofs.«01_k».proof.Proof.RefMath
public import Idealize.ShloMosaic.Lib.Pipeline.ValueKit.Geometry

@[expose] public section

set_option maxRecDepth 16384

noncomputable section

namespace Cert.ReferenceIdeal.Value

open Idealize.ShloMosaic Idealize.ShloMosaic.TcCoe Cert.ReferenceIdeal Cert.ReferenceIdeal.Gen Cert.Scale Cert.Linear

variable (m : (ℓ : Loc nD τ sig) → Buf (Elt Ideal) ℓ) (c : Dev nD) (t : Fin cfg0.N)

/-! ## The body's blocks are the whole arrays -/

theorem blk0 : iblk m c 0 t = V m c main_v50 := by
  refine funext fun y => ?_
  unfold iblk
  rw [View.read_apply]
  show V m c main_v50 _ = V m c main_v50 _
  refine congrArg (V m c main_v50) (funext fun a => Fin.ext ?_)
  have e : win0_0.index t = ![0, 0] := (by decide +kernel : ∀ t : Fin grid0.N, win0_0.index t = ![0, 0]) t
  match a with
  | ⟨0, _⟩ => show win0_0.index t 0 * 128 + 1 * (y 0).val = (y 0).val; rw [e]; show 0 * 128 + 1 * (y 0).val = (y 0).val; omega
  | ⟨1, _⟩ => show win0_0.index t 1 * 14336 + 1 * (y 1).val = (y 1).val; rw [e]; show 0 * 14336 + 1 * (y 1).val = (y 1).val; omega

theorem blk1 : iblk m c 1 t = V m c main_v43 := by
  refine funext fun y => ?_
  unfold iblk
  rw [View.read_apply]
  show V m c main_v43 _ = V m c main_v43 _
  refine congrArg (V m c main_v43) (funext fun a => Fin.ext ?_)
  have e : win0_1.index t = ![0, 0] := (by decide +kernel : ∀ t : Fin grid0.N, win0_1.index t = ![0, 0]) t
  match a with
  | ⟨0, _⟩ => show win0_1.index t 0 * 5120 + 1 * (y 0).val = (y 0).val; rw [e]; show 0 * 5120 + 1 * (y 0).val = (y 0).val; omega
  | ⟨1, _⟩ => show win0_1.index t 1 * 14336 + 1 * (y 1).val = (y 1).val; rw [e]; show 0 * 14336 + 1 * (y 1).val = (y 1).val; omega

theorem blk2 : iblk m c 2 t = V m c main_v46 := by
  refine funext fun y => ?_
  unfold iblk
  rw [View.read_apply]
  show V m c main_v46 _ = V m c main_v46 _
  refine congrArg (V m c main_v46) (funext fun a => Fin.ext ?_)
  have e : win0_2.index t = ![0, 0] := (by decide +kernel : ∀ t : Fin grid0.N, win0_2.index t = ![0, 0]) t
  match a with
  | ⟨0, _⟩ => show win0_2.index t 0 * 5120 + 1 * (y 0).val = (y 0).val; rw [e]; show 0 * 5120 + 1 * (y 0).val = (y 0).val; omega
  | ⟨1, _⟩ => show win0_2.index t 1 * 14336 + 1 * (y 1).val = (y 1).val; rw [e]; show 0 * 14336 + 1 * (y 1).val = (y 1).val; omega

theorem blk3 : iblk m c 3 t = V m c main_v49 := by
  refine funext fun y => ?_
  unfold iblk
  rw [View.read_apply]
  show V m c main_v49 _ = V m c main_v49 _
  refine congrArg (V m c main_v49) (funext fun a => Fin.ext ?_)
  have e : win0_3.index t = ![0, 0] := (by decide +kernel : ∀ t : Fin grid0.N, win0_3.index t = ![0, 0]) t
  match a with
  | ⟨0, _⟩ => show win0_3.index t 0 * 5120 + 1 * (y 0).val = (y 0).val; rw [e]; show 0 * 5120 + 1 * (y 0).val = (y 0).val; omega
  | ⟨1, _⟩ => show win0_3.index t 1 * 14336 + 1 * (y 1).val = (y 1).val; rw [e]; show 0 * 14336 + 1 * (y 1).val = (y 1).val; omega

/-! ## The stores are of whole blocks -/

section
variable (x0 : Vec Ideal S128x14336 .bf16) (x1 : Vec Ideal S5120x14336 .i32) (x2 : Vec Ideal S5120x14336 .i8) (x3 : Vec Ideal S5120x14336 .f16)

theorem z_w : (![0, 0] : Fin S5120x14336.rank → Nat) = fun _ => 0 := funext fun a => by fin_cases a <;> rfl
theorem z_x : (![0, 0] : Fin S128x14336.rank → Nat) = fun _ => 0 := funext fun a => by fin_cases a <;> rfl
theorem z_y : (![0, 0, 0] : Fin S1x128x5120.rank → Nat) = fun _ => 0 := funext fun a => by fin_cases a <;> rfl
theorem z_s : (![0, 0, 0] : Fin S1x128x40.rank → Nat) = fun _ => 0 := funext fun a => by fin_cases a <;> rfl

theorem out4 : out0_4 x0 x1 x2 x3 = k0_pay5 x3 x2 x1 x0 := by
  unfold out0_4
  rw [View.canon_unit_zero z_y, View.ld_unit_zero z_w, View.ld_unit_zero z_w, View.ld_unit_zero z_w, View.ld_unit_zero z_x]

theorem out5 : out0_5 x0 x1 x2 x3 = k0_pay2 (k0_pay6 x3 x2 x1 x0) (k0_pay7 x3 x2 x1 x0) (k0_pay8 x3 x2 x1 x0) := by
  unfold out0_5 k0_pay9 k0_pay10
  rw [View.canon_unit_zero z_y, View.ld_unit_zero z_w, View.ld_unit_zero z_w, View.ld_unit_zero z_w, View.ld_unit_zero z_x]

theorem out6 : out0_6 x0 x1 x2 x3 = k0_pay3 (k0_pay7 x3 x2 x1 x0) (k0_pay8 x3 x2 x1 x0) := by
  unfold out0_6 k0_pay9 k0_pay10
  rw [View.canon_unit_zero z_s, View.ld_unit_zero z_w, View.ld_unit_zero z_w, View.ld_unit_zero z_w, View.ld_unit_zero z_x]

end

/-! ## The values -/

/-- The layer's outputs on core `c`, from the arguments as launched. -/
def Yr : Vec Ideal Cert.KernelIdeal.S128x5120 .bf16 :=
  outputs (m ((c : Thread nD τ).loc main_arg0)) (m ((c : Thread nD τ).loc main_arg1)) (m ((c : Thread nD τ).loc main_arg2))
    (m ((c : Thread nD τ).loc main_arg3)) (m ((c : Thread nD τ).loc main_arg4))

theorem code_lt (ql : Vec Ideal Cert.KernelIdeal.S5120x56x2x64 .i8) (qh : Vec Ideal Cert.KernelIdeal.S5120x56x2x32 .i8) (J : Fin 5120) (k : Fin 14336) : code ql qh J k < 64 := by
  unfold code
  have h0 : ∀ (b : BitVec 8) (i : ℕ), Cert.KernelIdeal.Body.nib b i < 16 := fun b i => Nat.mod_lt _ (by decide)
  have h1 : ∀ (b : BitVec 8) (i : ℕ), Cert.KernelIdeal.Body.crumb b i < 4 := fun b i => Nat.mod_lt _ (by decide)
  have a0 := h0 (ql (ix4 J ⟨k.val / 256, by omega⟩ ⟨k.val % 256 / 128, by omega⟩ ⟨32 * (k.val % 64 / 32) + k.val % 32, by omega⟩)) (k.val % 128 / 64)
  have a1 := h1 (qh (ix4 J ⟨k.val / 256, by omega⟩ ⟨k.val % 256 / 128, by omega⟩ ⟨k.val % 32, by omega⟩)) (k.val % 128 / 32)
  omega

theorem toInt_small (n : ℕ) (h : n < 64) : (BitVec.ofNat 32 n).toInt = (n : ℤ) :=
  (by decide +kernel : ∀ n : Fin 64, (BitVec.ofNat 32 n.val).toInt = (n.val : ℤ)) ⟨n, h⟩

theorem less_offset (n : ℕ) : (((n : ℤ) : ℝ) : EReal) - 32 = ((((n : ℤ) - 32 : ℤ) : ℝ) : EReal) := by
  rw [Int.cast_sub, EReal.coe_sub]
  rfl

theorem Yr_apply (r : Fin 128) (J : Fin 5120) : Yr m c (ix2 r J) = ∑ k : Fin 14336, (show EReal from m ((c : Thread nD τ).loc main_arg0) (ix3 0 r k))
      * (((((code (m ((c : Thread nD τ).loc main_arg1)) (m ((c : Thread nD τ).loc main_arg2)) J k : ℤ) - 32 : ℤ) : ℝ) : EReal)
        * scaleOf (m ((c : Thread nD τ).loc main_arg3)) (m ((c : Thread nD τ).loc main_arg4)) J k) := rfl

/-- The reference's outputs from the arrays that its host made. -/
theorem pay4_value (r : Fin 128) (J : Fin 5120) : k0_pay4 (V m c main_v49) (V m c main_v46) (V m c main_v43) (V m c main_v50) (ix2 r J) = Yr m c (ix2 r J) := by
  rw [Yr_apply]
  refine (pay4_apply _ _ _ _ r J).trans ?_
  refine Finset.sum_congr rfl fun k _ => ?_
  rw [V_x, V_q, V_sc, V_d, toInt_small _ (code_lt _ _ J k), less_offset]
  rfl

theorem y_eq : k0_pay4 (iblk m c 3 t) (iblk m c 2 t) (iblk m c 1 t) (iblk m c 0 t) = Yr m c := by
  refine funext fun y => ?_
  obtain ⟨r, J, rfl⟩ : ∃ (r : Fin 128) (J : Fin 5120), y = ix2 r J := ⟨_, _, eq_ix2 y⟩
  rw [blk0, blk1, blk2, blk3]
  exact pay4_value m c r J

section
variable (P0 : Vec Ideal S5120x14336 .f16) (P1 : Vec Ideal S5120x14336 .i8) (P2 : Vec Ideal S5120x14336 .i32) (P3 : Vec Ideal S128x14336 .bf16)

theorem pay5_apply (r : Fin 128) (J : Fin 5120) : k0_pay5 P0 P1 P2 P3 (ix3 0 r J) = k0_pay4 P0 P1 P2 P3 (ix2 r J) := by
  unfold k0_pay5
  generalize k0_pay4 P0 P1 P2 P3 = Y
  pointwise []

theorem pay6_apply (r : Fin 128) (J : Fin 5120) :
    k0_pay6 P0 P1 P2 P3 (ix3 r ⟨J.val / 128, by omega⟩ ⟨J.val % 128, by omega⟩) = k0_pay4 P0 P1 P2 P3 (ix2 r J) := by
  unfold k0_pay6
  generalize k0_pay4 P0 P1 P2 P3 = Y
  have h : ∀ (g : Fin 40) (l : Fin 128), shapeCast S128x40x128 (extf (F := Ideal) .f32 Y bitsLt_bf16_f32) shapeCasts_S128x5120_S128x40x128 (ix3 r g l)
      = Y (ix2 r ⟨g.val * 128 + l.val, by omega⟩) := fun g l => by
    pointwise []
  exact (h _ _).trans (congrArg (fun J => Y (ix2 r J)) (Fin.ext (by
    show J.val / 128 * 128 + J.val % 128 = J.val
    omega)))

/-- The scale of a group. -/
theorem scale_value (r : Fin 128) (g : Fin 40) :
    k0_pay1 (k0_pay7 P0 P1 P2 P3) (k0_pay8 P0 P1 P2 P3) (ix3 r g 0) = rscale (topOf (k0_pay4 P0 P1 P2 P3) r g) := by
  rw [pay1_apply, pay8_apply, pay7_apply]
  rfl

/-- The code of an output. -/
theorem code_value (r : Fin 128) (J : Fin 5120) :
    k0_pay2 (k0_pay6 P0 P1 P2 P3) (k0_pay7 P0 P1 P2 P3) (k0_pay8 P0 P1 P2 P3) (ix3 0 r J) = groupCodes (k0_pay4 P0 P1 P2 P3) (ix3 0 r J) := by
  rw [pay2_apply, scale_value, pay6_apply]
  rfl

end

theorem arr4 : (dats m 0 c).arrAt 4 cfg0.N = fun y => Yr m c (ix2 (y 1) (y 2)) := by
  refine (dats m 0 c).arrAt_eq_of_covers 4 _ (by decide +kernel) fun t hf y => ?_
  blk_simp
  rw [after0_4, out4]
  obtain ⟨z, r, J, rfl⟩ : ∃ (z : Fin 1) (r : Fin 128) (J : Fin 5120), y = ix3 z r J := ⟨_, _, _, eq_ix3 y⟩
  obtain rfl : z = 0 := Subsingleton.elim _ _
  refine (pay5_apply _ _ _ _ r J).trans ((congrFun (y_eq m c t) (ix2 r J)).trans ?_)
  have e : win0_4.index t = ![0, 0, 0] := (by decide +kernel : ∀ t : Fin grid0.N, win0_4.index t = ![0, 0, 0]) t
  refine congrArg (Yr m c) (congrArg₂ (fun (r : Fin 128) (J : Fin 5120) => ix2 r J) (Fin.ext ?_) (Fin.ext ?_))
  · show r.val = win0_4.index t 1 * 128 + 1 * r.val
    rw [e]
    show r.val = 0 * 128 + 1 * r.val
    omega
  · show J.val = win0_4.index t 2 * 5120 + 1 * J.val
    rw [e]
    show J.val = 0 * 5120 + 1 * J.val
    omega

theorem arr5 : (dats m 0 c).arrAt 5 cfg0.N = groupCodes (Yr m c) := by
  refine (dats m 0 c).arrAt_eq_of_covers 5 _ (by decide +kernel) fun t hf y => ?_
  blk_simp
  rw [after0_5, out5]
  obtain ⟨z, r, J, rfl⟩ : ∃ (z : Fin 1) (r : Fin 128) (J : Fin 5120), y = ix3 z r J := ⟨_, _, _, eq_ix3 y⟩
  obtain rfl : z = 0 := Subsingleton.elim _ _
  refine (code_value _ _ _ _ r J).trans ?_
  rw [y_eq]
  have e : win0_5.index t = ![0, 0, 0] := (by decide +kernel : ∀ t : Fin grid0.N, win0_5.index t = ![0, 0, 0]) t
  refine congrArg (groupCodes (Yr m c)) (funext fun a => Fin.ext ?_)
  match a with
  | ⟨0, _⟩ => show 0 = win0_5.index t 0 * 1 + 1 * 0; rw [e]; rfl
  | ⟨1, _⟩ => show r.val = win0_5.index t 1 * 128 + 1 * r.val; rw [e]; show r.val = 0 * 128 + 1 * r.val; omega
  | ⟨2, _⟩ => show J.val = win0_5.index t 2 * 5120 + 1 * J.val; rw [e]; show J.val = 0 * 5120 + 1 * J.val; omega

theorem arr6 : (dats m 0 c).arrAt 6 cfg0.N = groupScales (Yr m c) := by
  refine (dats m 0 c).arrAt_eq_of_covers 6 _ (by decide +kernel) fun t hf y => ?_
  blk_simp
  rw [after0_6, out6]
  obtain ⟨z, r, g, rfl⟩ : ∃ (z : Fin 1) (r : Fin 128) (g : Fin 40), y = ix3 z r g := ⟨_, _, _, eq_ix3 y⟩
  obtain rfl : z = 0 := Subsingleton.elim _ _
  refine (pay3_apply _ _ r g).trans ((scale_value _ _ _ _ r g).trans ?_)
  rw [y_eq]
  have e : win0_6.index t = ![0, 0, 0] := (by decide +kernel : ∀ t : Fin grid0.N, win0_6.index t = ![0, 0, 0]) t
  show groupScales (Yr m c) (ix3 0 r g) = _
  refine congrArg (groupScales (Yr m c)) (funext fun a => Fin.ext ?_)
  match a with
  | ⟨0, _⟩ => show 0 = win0_6.index t 0 * 1 + 1 * 0; rw [e]; rfl
  | ⟨1, _⟩ => show r.val = win0_6.index t 1 * 128 + 1 * r.val; rw [e]; show r.val = 0 * 128 + 1 * r.val; omega
  | ⟨2, _⟩ => show g.val = win0_6.index t 2 * 40 + 1 * g.val; rw [e]; show g.val = 0 * 40 + 1 * g.val; omega

end Cert.ReferenceIdeal.Value

end
-- ==== Proof.lean ====
module

public import proofs.«01_k».proof.Defs
public import proofs.«01_k».proof.Proof.KernelFrame
public import proofs.«01_k».proof.Proof.KernelIdealFrame
public import proofs.«01_k».proof.Proof.ArraysOut
public import proofs.«01_k».proof.Proof.RefValue
public import proofs.«01_k».proof.Proof.Gen.ReferenceIdeal.Value
public import proofs.«01_k».proof.Proof.Gen.ReferenceIdeal.Frame
public import Idealize.ShloMosaic.Lib.Bf16PairInverse
public import Idealize.ShloMosaic.Adequacy
public import Idealize.ShloMosaic.Init

@[expose] public section

noncomputable section

namespace Cert.Proof

open Idealize.ShloMosaic Idealize.SL.Sem

/-- Each rewrite of the idealization is an instance of a law of packed bf16 pairs. -/
theorem preserves : Cert.preserves_Kernel_KernelIdeal :=
  open Cert.KernelIdeal IdealRules.bf16_pair in
  ⟨bufferStatement S4x448x2x128 S4x448x1x128, packStatement S8x128, statement S1x8x2x128 S1x8x1x128,
    statement S1x1x2x128 S1x1x1x128, statement S2x128 S1x128⟩

open Cert.KernelIdeal.Gen Cert.KernelIdeal.Value in
/-- The idealized kernel's run: its results are the layer's outputs, their codes and their scales; its arguments are as launched. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v8) = outs m c
      ∧ r.2.mem ((c.tc : Thread Cert.KernelIdeal.nD Cert.KernelIdeal.τ).loc Cert.KernelIdeal.main_v9) = Cert.Linear.groupCodes (Y m c)
      ∧ r.2.mem ((c.tc : Thread Cert.KernelIdeal.nD Cert.KernelIdeal.τ).loc Cert.KernelIdeal.main_v10) = Cert.Linear.groupScales (Y m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun _ h c => ⟨((h c).2 Cert.KernelIdeal.main_v8 (Pipeline.mem_restRefs_of Cert.KernelIdeal.main_v8 (by decide) (by decide))).trans (kernel_y m c),
    ((h c).2 Cert.KernelIdeal.main_v9 (Pipeline.mem_restRefs_of Cert.KernelIdeal.main_v9 (by decide) (by decide))).trans (kernel_codes m c),
    ((h c).2 Cert.KernelIdeal.main_v10 (Pipeline.mem_restRefs_of Cert.KernelIdeal.main_v10 (by decide) (by decide))).trans (kernel_scales m c),
    ((h c).2 Cert.KernelIdeal.main_arg0 (Pipeline.mem_restRefs_of Cert.KernelIdeal.main_arg0 (by decide) (by decide))).trans (W_main_arg0 m (dats m) c),
    ((h c).2 Cert.KernelIdeal.main_arg1 (Pipeline.mem_restRefs_of Cert.KernelIdeal.main_arg1 (by decide) (by decide))).trans (W_main_arg1 m (dats m) c),
    ((h c).2 Cert.KernelIdeal.main_arg2 (Pipeline.mem_restRefs_of Cert.KernelIdeal.main_arg2 (by decide) (by decide))).trans (W_main_arg2 m (dats m) c),
    ((h c).2 Cert.KernelIdeal.main_arg3 (Pipeline.mem_restRefs_of Cert.KernelIdeal.main_arg3 (by decide) (by decide))).trans (W_main_arg3 m (dats m) c),
    ((h c).2 Cert.KernelIdeal.main_arg4 (Pipeline.mem_restRefs_of Cert.KernelIdeal.main_arg4 (by decide) (by decide))).trans (W_main_arg4 m (dats m) c)⟩)
    (run_main m g)

/-- From the same arguments both programs end with the same three results. -/
theorem algebraic : Cert.algebraic_KernelIdeal_ReferenceIdeal := by
  intro m g m' g' _ hargs
  refine ⟨fun c => Cert.KernelIdeal.Value.outs m c, fun c => Cert.Linear.groupCodes (Cert.KernelIdeal.Value.Y m c),
    fun c => Cert.Linear.groupScales (Cert.KernelIdeal.Value.Y m c), kernel_run m g, ?_⟩
  have hY : ∀ c : Dev Cert.ReferenceIdeal.nD, Cert.ReferenceIdeal.Value.Yr m' c = Cert.KernelIdeal.Value.Y m c := fun c => by
    obtain ⟨h0, h1, h2, h3, h4⟩ := hargs c
    unfold Cert.ReferenceIdeal.Value.Yr Cert.KernelIdeal.Value.Y
    rw [h0, h1, h2, h3, h4]
  refine (θ_run _ _ _).mono (fun r h c => ?_) (Cert.ReferenceIdeal.Value.run_blocks m' g')
  obtain ⟨h4, h5, h6, hkept⟩ := h c
  refine ⟨h4.trans ((Cert.ReferenceIdeal.Value.arr4 m' c).trans ?_), h5.trans ((Cert.ReferenceIdeal.Value.arr5 m' c).trans ?_),
    h6.trans ((Cert.ReferenceIdeal.Value.arr6 m' c).trans ?_), hkept⟩
  · rw [hY c]
    rfl
  · rw [hY c]
  · rw [hY c]

theorem claim : Cert.Claim :=
  ⟨Cert.Kernel.Gen.facts, Cert.KernelIdeal.Gen.facts, Cert.ReferenceIdeal.Gen.facts,
    fun m ρ _ => Cert.Kernel.Body.frame m ρ, fun m ρ _ => Cert.KernelIdeal.Body.frame m ρ,
    fun m ρ _ => Cert.ReferenceIdeal.Gen.frame m ρ, preserves, algebraic⟩

end Cert.Proof

end
